-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sums_fit_KernelIdeal [hPre_sums_fit_KernelIdeal : Cert.Pre_sums_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_sums_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sums_fit_within_clip_KernelIdeal [hPre_sums_fit_within_clip_KernelIdeal : Cert.Pre_sums_fit_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_sums_fit_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sums_fit_within_clip_ReferenceIdeal [hPre_sums_fit_within_clip_ReferenceIdeal : Cert.Pre_sums_fit_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sums_fit_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UnclippedIdeal (m : (ℓ : Loc Cert.UnclippedIdeal.nD Cert.UnclippedIdeal.τ Cert.UnclippedIdeal.sig) → Buf (Elt Ideal) ℓ) : Prop :=
  True

def Pre_UnclippedIdeal_sums_fit_UnclippedIdeal [hPre_sums_fit_UnclippedIdeal : Cert.Pre_sums_fit_UnclippedIdeal.Facts] (m : (ℓ : Loc Cert.UnclippedIdeal.nD Cert.UnclippedIdeal.τ Cert.UnclippedIdeal.sig) → Buf (Elt Ideal) ℓ) : Prop :=
  ∀ c : Dev Cert.UnclippedIdeal.nD,
    (Cert.Pre_sums_fit_UnclippedIdeal.fn (F := Ideal) (m ((c.tc : Thread Cert.UnclippedIdeal.nD Cert.UnclippedIdeal.τ).loc Cert.UnclippedIdeal.main_arg0)) (m ((c.tc : Thread Cert.UnclippedIdeal.nD Cert.UnclippedIdeal.τ).loc Cert.UnclippedIdeal.main_arg1)) (m ((c.tc : Thread Cert.UnclippedIdeal.nD Cert.UnclippedIdeal.τ).loc Cert.UnclippedIdeal.main_arg2)) (m ((c.tc : Thread Cert.UnclippedIdeal.nD Cert.UnclippedIdeal.τ).loc Cert.UnclippedIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sums_fit_KernelIdeal [hKernelIdeal : Cert.KernelIdeal.Facts] [hPre_sums_fit_KernelIdeal : Cert.Pre_sums_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sums_fit_within_clip_KernelIdeal [hKernelIdeal : Cert.KernelIdeal.Facts] [hPre_sums_fit_within_clip_KernelIdeal : Cert.Pre_sums_fit_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_fit_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sums_fit_within_clip_ReferenceIdeal [hReferenceIdeal : Cert.ReferenceIdeal.Facts] [hPre_sums_fit_within_clip_ReferenceIdeal : Cert.Pre_sums_fit_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sums_fit_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def quiescent_UnclippedIdeal_pre_sums_fit_UnclippedIdeal [hUnclippedIdeal : Cert.UnclippedIdeal.Facts] [hPre_sums_fit_UnclippedIdeal : Cert.Pre_sums_fit_UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal_sums_fit_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def preserves_Kernel_KernelIdeal : Prop :=
  True

def algebraic_KernelIdeal_UnclippedIdeal_pre_sums_fit_KernelIdeal [hKernelIdeal : Cert.KernelIdeal.Facts] [hUnclippedIdeal : Cert.UnclippedIdeal.Facts] [hPre_sums_fit_KernelIdeal : Cert.Pre_sums_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal_sums_fit_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3)) →
    ∃ (v0 : Buf (Elt Ideal) (((0 : Dev Cert.UnclippedIdeal.nD).tc : Thread Cert.UnclippedIdeal.nD Cert.UnclippedIdeal.τ).loc Cert.UnclippedIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v13) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2)
          ∧ r.2.mem (((0 : Dev Cert.UnclippedIdeal.nD).tc : Thread Cert.UnclippedIdeal.nD Cert.UnclippedIdeal.τ).loc Cert.UnclippedIdeal.main_arg3) = m' (((0 : Dev Cert.UnclippedIdeal.nD).tc : Thread Cert.UnclippedIdeal.nD Cert.UnclippedIdeal.τ).loc Cert.UnclippedIdeal.main_arg3))

def algebraic_KernelIdeal_ReferenceIdeal_pre_sums_fit_within_clip_KernelIdeal [hKernelIdeal : Cert.KernelIdeal.Facts] [hReferenceIdeal : Cert.ReferenceIdeal.Facts] [hPre_sums_fit_within_clip_KernelIdeal : Cert.Pre_sums_fit_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sums_fit_within_clip_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_sums_fit_KernelIdeal : Cert.Pre_sums_fit_KernelIdeal.Facts) (hPre_sums_fit_within_clip_KernelIdeal : Cert.Pre_sums_fit_within_clip_KernelIdeal.Facts) (hPre_sums_fit_within_clip_ReferenceIdeal : Cert.Pre_sums_fit_within_clip_ReferenceIdeal.Facts) (hPre_sums_fit_UnclippedIdeal : Cert.Pre_sums_fit_UnclippedIdeal.Facts),
    quiescent_Kernel (hKernel := hKernel)
    ∧ quiescent_KernelIdeal (hKernelIdeal := hKernelIdeal)
    ∧ quiescent_KernelIdeal_pre_sums_fit_KernelIdeal (hKernelIdeal := hKernelIdeal) (hPre_sums_fit_KernelIdeal := hPre_sums_fit_KernelIdeal)
    ∧ quiescent_KernelIdeal_pre_sums_fit_within_clip_KernelIdeal (hKernelIdeal := hKernelIdeal) (hPre_sums_fit_within_clip_KernelIdeal := hPre_sums_fit_within_clip_KernelIdeal)
    ∧ quiescent_ReferenceIdeal (hReferenceIdeal := hReferenceIdeal)
    ∧ quiescent_ReferenceIdeal_pre_sums_fit_within_clip_ReferenceIdeal (hReferenceIdeal := hReferenceIdeal) (hPre_sums_fit_within_clip_ReferenceIdeal := hPre_sums_fit_within_clip_ReferenceIdeal)
    ∧ quiescent_UnclippedIdeal (hUnclippedIdeal := hUnclippedIdeal)
    ∧ quiescent_UnclippedIdeal_pre_sums_fit_UnclippedIdeal (hUnclippedIdeal := hUnclippedIdeal) (hPre_sums_fit_UnclippedIdeal := hPre_sums_fit_UnclippedIdeal)
    ∧ preserves_Kernel_KernelIdeal
    ∧ algebraic_KernelIdeal_UnclippedIdeal_pre_sums_fit_KernelIdeal (hKernelIdeal := hKernelIdeal) (hUnclippedIdeal := hUnclippedIdeal) (hPre_sums_fit_KernelIdeal := hPre_sums_fit_KernelIdeal)
    ∧ algebraic_KernelIdeal_ReferenceIdeal_pre_sums_fit_within_clip_KernelIdeal (hKernelIdeal := hKernelIdeal) (hReferenceIdeal := hReferenceIdeal) (hPre_sums_fit_within_clip_KernelIdeal := hPre_sums_fit_within_clip_KernelIdeal)
-- ==== Pre_sums_fit_KernelIdeal.lean ====
abbrev S256x4096 : Shape := ⟨2, ![256, 4096]⟩
abbrev S4096x8192 : Shape := ⟨2, ![4096, 8192]⟩
abbrev S1 : Shape := ⟨1, ![1]⟩
abbrev S256x8192 : Shape := ⟨2, ![256, 8192]⟩
abbrev S_ : Shape := ⟨0, ![]⟩

class Facts : Prop where
  natLt_8_32 : 8 < 32
  bcast_S_S256x8192 : S_.BroadcastsInDim S256x8192 (![] : Fin 0 → Fin S256x8192.rank)
  dot_S256x4096_S4096x8192_S256x8192_1_0_0_1_n_n_wf : DotDims.WF S256x4096 S4096x8192 S256x8192 [1] [0] [0] [1] [] []

variable [Facts]

def dot_S256x4096_S4096x8192_S256x8192_1_0_0_1_n_n : DotDims S256x4096 S4096x8192 S256x8192 where
  lhsContracting := [1]
  rhsContracting := [0]
  lhsNonContracting := [0]
  rhsNonContracting := [1]
  lhsBatch := []
  rhsBatch := []
  wf := dot_S256x4096_S4096x8192_S256x8192_1_0_0_1_n_n_wf
def fn {F : FTy → Type} [FloatOps F] (main_arg0 : IVec S256x4096 8) (main_arg1 : IVec S4096x8192 8) (main_arg2 : FVec F S1 .f32) (main_arg3 : FVec F S1 .f32) : IVec S256x8192 1 :=
  let main_v0 : IVec S256x4096 32 := (extsi 32 · natLt_8_32) main_arg0
  let main_v1 : FVec F S256x4096 .f32 := sitofp .f32 main_v0
  let main_v2 : FVec F S256x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S256x8192 .f32 := (fun l r => Host.dotGeneral dot_S256x4096_S4096x8192_S256x8192_1_0_0_1_n_n none l r) main_v2 main_v5
  let main_cst : FVec F S_ .f32 := constant S_ .f32 0x4B800000#32
  let main_v7 : FVec F S256x8192 .f32 := broadcastInDim S256x8192 ![] bcast_S_S256x8192 main_cst
  let main_v8 : IVec S256x8192 1 := cmpf .olt main_v6 main_v7
  main_v8
-- ==== Pre_sums_fit_UnclippedIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  natLt_8_32 : 8 < 32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : IVec S4096x4096 8) (main_arg1 : IVec S4096x8192 8) (main_arg2 : FVec F S1 .f32) (main_arg3 : FVec F S1 .f32) : IVec S4096x8192 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S4096x8192 .f32 := (fun l r => Host.dotGeneral dot_S4096x4096_S4096x8192_S4096x8192_1_0_0_1_n_n none l r) main_v2 main_v5
  let main_cst : FVec F S_ .f32 := constant S_ .f32 0x4B800000#32
  let main_v7 : FVec F S4096x8192 .f32 := broadcastInDim S4096x8192 ![] bcast_S_S4096x8192 main_cst
  let main_v8 : IVec S4096x8192 1 := cmpf .olt main_v6 main_v7
  main_v8
-- ==== Pre_sums_fit_within_clip_KernelIdeal.lean ====
abbrev S256x4096 : Shape := ⟨2, ![256, 4096]⟩
abbrev S4096x8192 : Shape := ⟨2, ![4096, 8192]⟩
abbrev S1 : Shape := ⟨1, ![1]⟩
abbrev S256x8192 : Shape := ⟨2, ![256, 8192]⟩
abbrev S_ : Shape := ⟨0, ![]⟩
abbrev S1x1 : Shape := ⟨2, ![1, 1]⟩

class Facts : Prop where
  natLt_8_32 : 8 < 32
  bcast_S_S256x8192 : S_.BroadcastsInDim S256x8192 (![] : Fin 0 → Fin S256x8192.rank)
  bcast_S1_S1x1_1 : S1.BroadcastsInDim S1x1 (![1] : Fin 1 → Fin S1x1.rank)
  bcast_S1x1_S256x8192_0_1 : S1x1.BroadcastsInDim S256x8192 (![0, 1] : Fin 2 → Fin S256x8192.rank)
  dot_S256x4096_S4096x8192_S256x8192_1_0_0_1_n_n_wf : DotDims.WF S256x4096 S4096x8192 S256x8192 [1] [0] [0] [1] [] []

variable [Facts]

def dot_S256x4096_S4096x8192_S256x8192_1_0_0_1_n_n : DotDims S256x4096 S4096x8192 S256x8192 where
  lhsContracting := [1]
  rhsContracting := [0]
  lhsNonContracting := [0]
  rhsNonContracting := [1]
  lhsBatch := []
  rhsBatch := []
  wf := dot_S256x4096_S4096x8192_S256x8192_1_0_0_1_n_n_wf
def fn {F : FTy → Type} [FloatOps F] (main_arg0 : IVec S256x4096 8) (main_arg1 : IVec S4096x8192 8) (main_arg2 : FVec F S1 .f32) (main_arg3 : FVec F S1 .f32) : IVec S256x8192 1 :=
  let main_v0 : IVec S256x4096 32 := (extsi 32 · natLt_8_32) main_arg0
  let main_v1 : FVec F S256x4096 .f32 := sitofp .f32 main_v0
  let main_v2 : FVec F S256x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S256x8192 .f32 := (fun l r => Host.dotGeneral dot_S256x4096_S4096x8192_S256x8192_1_0_0_1_n_n none l r) main_v2 main_v5
  let main_cst : FVec F S_ .f32 := constant S_ .f32 0x4B800000#32
  let main_v7 : FVec F S256x8192 .f32 := broadcastInDim S256x8192 ![] bcast_S_S256x8192 main_cst
  let main_v8 : IVec S256x8192 1 := cmpf .olt main_v6 main_v7
  let main_v9 : IVec S256x4096 32 := (extsi 32 · natLt_8_32) main_arg0
  let main_v10 : FVec F S256x4096 .f32 := sitofp .f32 main_v9
  let main_v11 : IVec S4096x8192 32 := (extsi 32 · natLt_8_32) main_arg1
  let main_v12 : FVec F S4096x8192 .f32 := sitofp .f32 main_v11
  let main_v13 : FVec F S256x8192 .f32 := (fun l r => Host.dotGeneral dot_S256x4096_S4096x8192_S256x8192_1_0_0_1_n_n none l r) main_v10 main_v12
  let main_v14 : FVec F S1 .f32 := mulf main_arg2 main_arg3
  let main_v15 : FVec F S1x1 .f32 := broadcastInDim S1x1 ![1] bcast_S1_S1x1_1 main_v14
  let main_v16 : FVec F S256x8192 .f32 := broadcastInDim S256x8192 ![0, 1] bcast_S1x1_S256x8192_0_1 main_v15
  let main_v17 : FVec F S256x8192 .f32 := mulf main_v13 main_v16
  let main_v18 : FVec F S256x8192 .f32 := Host.absf main_v17
  let main_cst_0 : FVec F S_ .f32 := constant S_ .f32 0x42700000#32
  let main_v19 : FVec F S256x8192 .f32 := broadcastInDim S256x8192 ![] bcast_S_S256x8192 main_cst_0
  let main_v20 : IVec S256x8192 1 := cmpf .ole main_v18 main_v19
  let main_v21 : IVec S256x8192 1 := andi main_v8 main_v20
  main_v21
-- ==== Pre_sums_fit_within_clip_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩
abbrev S1x1 : Shape := ⟨2, ![1, 1]⟩

class Facts : Prop where
  natLt_8_32 : 8 < 32
  bcast_S_S4096x8192 : S_.BroadcastsInDim S4096x8192 (![] : Fin 0 → Fin S4096x8192.rank)
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : IVec S4096x4096 8) (main_arg1 : IVec S4096x8192 8) (main_arg2 : FVec F S1 .f32) (main_arg3 : FVec F S1 .f32) : IVec S4096x8192 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S4096x8192 .f32 := (fun l r => Host.dotGeneral dot_S4096x4096_S4096x8192_S4096x8192_1_0_0_1_n_n none l r) main_v2 main_v5
  let main_cst : FVec F S_ .f32 := constant S_ .f32 0x4B800000#32
  let main_v7 : FVec F S4096x8192 .f32 := broadcastInDim S4096x8192 ![] bcast_S_S4096x8192 main_cst
  let main_v8 : IVec S4096x8192 1 := cmpf .olt main_v6 main_v7
  let main_v9 : IVec S4096x4096 32 := (extsi 32 · natLt_8_32) main_arg0
  let main_v10 : FVec F S4096x4096 .f32 := sitofp .f32 main_v9
  let main_v11 : IVec S4096x8192 32 := (extsi 32 · natLt_8_32) main_arg1
  let main_v12 : FVec F S4096x8192 .f32 := sitofp .f32 main_v11
  let main_v13 : FVec F S4096x8192 .f32 := (fun l r => Host.dotGeneral dot_S4096x4096_S4096x8192_S4096x8192_1_0_0_1_n_n none l r) main_v10 main_v12
  let main_v14 : FVec F S1 .f32 := mulf main_arg2 main_arg3
  let main_v15 : FVec F S1x1 .f32 := broadcastInDim S1x1 ![1] bcast_S1_S1x1_1 main_v14
  let main_v16 : FVec F S4096x8192 .f32 := broadcastInDim S4096x8192 ![0, 1] bcast_S1x1_S4096x8192_0_1 main_v15
  let main_v17 : FVec F S4096x8192 .f32 := mulf main_v13 main_v16
  let main_v18 : FVec F S4096x8192 .f32 := Host.absf main_v17
  let main_cst_0 : FVec F S_ .f32 := constant S_ .f32 0x42700000#32
  let main_v19 : FVec F S4096x8192 .f32 := broadcastInDim S4096x8192 ![] bcast_S_S4096x8192 main_cst_0
  let main_v20 : IVec S4096x8192 1 := cmpf .ole main_v18 main_v19
  let main_v21 : IVec S4096x8192 1 := andi main_v8 main_v20
  main_v21
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S2x4096x512 : Shape := ⟨3, ![2, 4096, 512]⟩
abbrev S2 : Shape := ⟨1, ![2]⟩
abbrev S16x256x512 : Shape := ⟨3, ![16, 256, 512]⟩
abbrev S16 : Shape := ⟨1, ![16]⟩
abbrev S_ : Shape := ⟨0, ![]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .i8⟩
  | .local _ .vmem, ⟨1, _⟩ => ⟨S4096x512, .f32⟩
  | .local _ .vmem, ⟨2, _⟩ => ⟨S2x4096x512, .i8⟩
  | .local _ .vmem, ⟨3, _⟩ => ⟨S16x256x512, .bf16⟩
  | .local _ .vmem, ⟨4, _⟩ => ⟨S4096x512, .bf16⟩
  | .local _ .smem, ⟨0, _⟩ => ⟨S1, .f32⟩
  | .local _ .smem, ⟨1, _⟩ => ⟨S1, .f32⟩
  | _, _ => ⟨S256x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch2 : Ref sig .tc := ⟨.vmem, 3, rfl⟩
abbrev cc0_scratch3 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v7 : BitVec 32 := Scalar.addi v2 c0_i32
  let c16_i32_1 : BitVec 32 := 16#32
  let v8 : BitVec 32 := Scalar.remsi v7 c16_i32_1
  let c1_i32_3 : BitVec 32 := 1#32
  let v9 : BitVec 32 := Scalar.muli v8 c1_i32_3
  let v10 : BitVec 32 := Scalar.addi c0_i32_4 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.addi v2 c1_i32_5
  let c16_i32_6 : BitVec 32 := 16#32
  let v12 : BitVec 32 := Scalar.remsi v11 c16_i32_6
  let c1_i32_8 : BitVec 32 := 1#32
  let v13 : BitVec 32 := Scalar.muli v12 c1_i32_8
  let v14 : BitVec 32 := Scalar.addi c0_i32_9 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v15 : BitVec 32 := Scalar.addi v2 c2_i32
  let c16_i32_10 : BitVec 32 := 16#32
  let v16 : BitVec 32 := Scalar.remsi v15 c16_i32_10
  let c1_i32_12 : BitVec 32 := 1#32
  let v17 : BitVec 32 := Scalar.muli v16 c1_i32_12
  let v18 : BitVec 32 := Scalar.addi c0_i32_13 v17
  v18.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v19 : BitVec 32 := Scalar.addi v2 c3_i32
  let c16_i32_14 : BitVec 32 := 16#32
  let v20 : BitVec 32 := Scalar.remsi v19 c16_i32_14
  let c1_i32_16 : BitVec 32 := 1#32
  let v21 : BitVec 32 := Scalar.muli v20 c1_i32_16
  let v22 : BitVec 32 := Scalar.addi c0_i32_17 v21
  v22.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v23 : BitVec 32 := Scalar.addi v2 c4_i32
  let c16_i32_18 : BitVec 32 := 16#32
  let v24 : BitVec 32 := Scalar.remsi v23 c16_i32_18
  let c1_i32_20 : BitVec 32 := 1#32
  let v25 : BitVec 32 := Scalar.muli v24 c1_i32_20
  let v26 : BitVec 32 := Scalar.addi c0_i32_21 v25
  v26.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v27 : BitVec 32 := Scalar.addi v2 c5_i32
  let c16_i32_22 : BitVec 32 := 16#32
  let v28 : BitVec 32 := Scalar.remsi v27 c16_i32_22
  let c1_i32_24 : BitVec 32 := 1#32
  let v29 : BitVec 32 := Scalar.muli v28 c1_i32_24
  let v30 : BitVec 32 := Scalar.addi c0_i32_25 v29
  v30.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v31 : BitVec 32 := Scalar.addi v2 c6_i32
  let c16_i32_26 : BitVec 32 := 16#32
  let v32 : BitVec 32 := Scalar.remsi v31 c16_i32_26
  let c1_i32_28 : BitVec 32 := 1#32
  let v33 : BitVec 32 := Scalar.muli v32 c1_i32_28
  let v34 : BitVec 32 := Scalar.addi c0_i32_29 v33
  v34.toNat
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v35 : BitVec 32 := Scalar.addi v2 c7_i32
  let c16_i32_30 : BitVec 32 := 16#32
  let v36 : BitVec 32 := Scalar.remsi v35 c16_i32_30
  let c1_i32_32 : BitVec 32 := 1#32
  let v37 : BitVec 32 := Scalar.muli v36 c1_i32_32
  let v38 : BitVec 32 := Scalar.addi c0_i32_33 v37
  v38.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v39 : BitVec 32 := Scalar.addi v2 c8_i32
  let c16_i32_34 : BitVec 32 := 16#32
  let v40 : BitVec 32 := Scalar.remsi v39 c16_i32_34
  let c1_i32_36 : BitVec 32 := 1#32
  let v41 : BitVec 32 := Scalar.muli v40 c1_i32_36
  let v42 : BitVec 32 := Scalar.addi c0_i32_37 v41
  v42.toNat
def k0_dev10 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v43 : BitVec 32 := Scalar.addi v2 c9_i32
  let c16_i32_38 : BitVec 32 := 16#32
  let v44 : BitVec 32 := Scalar.remsi v43 c16_i32_38
  let c1_i32_40 : BitVec 32 := 1#32
  let v45 : BitVec 32 := Scalar.muli v44 c1_i32_40
  let v46 : BitVec 32 := Scalar.addi c0_i32_41 v45
  v46.toNat
def k0_dev11 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v47 : BitVec 32 := Scalar.addi v2 c10_i32
  let c16_i32_42 : BitVec 32 := 16#32
  let v48 : BitVec 32 := Scalar.remsi v47 c16_i32_42
  let c1_i32_44 : BitVec 32 := 1#32
  let v49 : BitVec 32 := Scalar.muli v48 c1_i32_44
  let v50 : BitVec 32 := Scalar.addi c0_i32_45 v49
  v50.toNat
def k0_dev12 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v51 : BitVec 32 := Scalar.addi v2 c11_i32
  let c16_i32_46 : BitVec 32 := 16#32
  let v52 : BitVec 32 := Scalar.remsi v51 c16_i32_46
  let c1_i32_48 : BitVec 32 := 1#32
  let v53 : BitVec 32 := Scalar.muli v52 c1_i32_48
  let v54 : BitVec 32 := Scalar.addi c0_i32_49 v53
  v54.toNat
def k0_dev13 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v55 : BitVec 32 := Scalar.addi v2 c12_i32
  let c16_i32_50 : BitVec 32 := 16#32
  let v56 : BitVec 32 := Scalar.remsi v55 c16_i32_50
  let c1_i32_52 : BitVec 32 := 1#32
  let v57 : BitVec 32 := Scalar.muli v56 c1_i32_52
  let v58 : BitVec 32 := Scalar.addi c0_i32_53 v57
  v58.toNat
def k0_dev14 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v59 : BitVec 32 := Scalar.addi v2 c13_i32
  let c16_i32_54 : BitVec 32 := 16#32
  let v60 : BitVec 32 := Scalar.remsi v59 c16_i32_54
  let c1_i32_56 : BitVec 32 := 1#32
  let v61 : BitVec 32 := Scalar.muli v60 c1_i32_56
  let v62 : BitVec 32 := Scalar.addi c0_i32_57 v61
  v62.toNat
def k0_dev15 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v63 : BitVec 32 := Scalar.addi v2 c14_i32
  let c16_i32_58 : BitVec 32 := 16#32
  let v64 : BitVec 32 := Scalar.remsi v63 c16_i32_58
  let c1_i32_60 : BitVec 32 := 1#32
  let v65 : BitVec 32 := Scalar.muli v64 c1_i32_60
  let v66 : BitVec 32 := Scalar.addi c0_i32_61 v65
  v66.toNat
def k0_dev16 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v67 : BitVec 32 := Scalar.addi v2 c15_i32
  let c16_i32_62 : BitVec 32 := 16#32
  let v68 : BitVec 32 := Scalar.remsi v67 c16_i32_62
  let c1_i32_64 : BitVec 32 := 1#32
  let v69 : BitVec 32 := Scalar.muli v68 c1_i32_64
  let v70 : BitVec 32 := Scalar.addi c0_i32_65 v69
  v70.toNat
def k0_off1 (d0 : Dev nD) (c0_i32_67 : BitVec 32) : Fin 2 → Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v71 : BitVec 32 := Scalar.addi v2 c0_i32_67
  let c16_i32_68 : BitVec 32 := 16#32
  let v72 : BitVec 32 := Scalar.remsi v71 c16_i32_68
  let c512_i32 : BitVec 32 := 512#32
  let v73 : BitVec 32 := Scalar.muli v72 c512_i32
  ![0, v73.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v119 : BitVec 32 := Scalar.muli v2 c256_i32
  let c0_i32_112 : BitVec 32 := 0#32
  ![v119.toNat, 0]
def k0_dev17 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_82 : BitVec 32 := 0#32
  let v87 : BitVec 32 := Scalar.addi v2 c0_i32_82
  let c16_i32_83 : BitVec 32 := 16#32
  let v88 : BitVec 32 := Scalar.remsi v87 c16_i32_83
  let c1_i32_110 : BitVec 32 := 1#32
  let v120 : BitVec 32 := Scalar.muli v88 c1_i32_110
  let v121 : BitVec 32 := Scalar.addi c0_i32_111 v120
  v121.toNat
def k0_dev18 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_115 : BitVec 32 := 1#32
  let v129 : BitVec 32 := Scalar.addi v2 c1_i32_115
  let c16_i32_116 : BitVec 32 := 16#32
  let v130 : BitVec 32 := Scalar.remsi v129 c16_i32_116
  let c1_i32_144 : BitVec 32 := 1#32
  let v162 : BitVec 32 := Scalar.muli v130 c1_i32_144
  let v163 : BitVec 32 := Scalar.addi c0_i32_145 v162
  v163.toNat
def k0_dev19 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_149 : BitVec 32 := 2#32
  let v171 : BitVec 32 := Scalar.addi v2 c2_i32_149
  let c16_i32_150 : BitVec 32 := 16#32
  let v172 : BitVec 32 := Scalar.remsi v171 c16_i32_150
  let c1_i32_178 : BitVec 32 := 1#32
  let v204 : BitVec 32 := Scalar.muli v172 c1_i32_178
  let v205 : BitVec 32 := Scalar.addi c0_i32_179 v204
  v205.toNat
def k0_dev20 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_183 : BitVec 32 := 3#32
  let v213 : BitVec 32 := Scalar.addi v2 c3_i32_183
  let c16_i32_184 : BitVec 32 := 16#32
  let v214 : BitVec 32 := Scalar.remsi v213 c16_i32_184
  let c1_i32_212 : BitVec 32 := 1#32
  let v246 : BitVec 32 := Scalar.muli v214 c1_i32_212
  let v247 : BitVec 32 := Scalar.addi c0_i32_213 v246
  v247.toNat
def k0_dev21 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v255 : BitVec 32 := Scalar.addi v2 c4_i32_217
  let c16_i32_218 : BitVec 32 := 16#32
  let v256 : BitVec 32 := Scalar.remsi v255 c16_i32_218
  let c1_i32_246 : BitVec 32 := 1#32
  let v288 : BitVec 32 := Scalar.muli v256 c1_i32_246
  let v289 : BitVec 32 := Scalar.addi c0_i32_247 v288
  v289.toNat
def k0_dev22 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_251 : BitVec 32 := 5#32
  let v297 : BitVec 32 := Scalar.addi v2 c5_i32_251
  let c16_i32_252 : BitVec 32 := 16#32
  let v298 : BitVec 32 := Scalar.remsi v297 c16_i32_252
  let c1_i32_280 : BitVec 32 := 1#32
  let v330 : BitVec 32 := Scalar.muli v298 c1_i32_280
  let v331 : BitVec 32 := Scalar.addi c0_i32_281 v330
  v331.toNat
def k0_dev23 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_285 : BitVec 32 := 6#32
  let v339 : BitVec 32 := Scalar.addi v2 c6_i32_285
  let c16_i32_286 : BitVec 32 := 16#32
  let v340 : BitVec 32 := Scalar.remsi v339 c16_i32_286
  let c1_i32_314 : BitVec 32 := 1#32
  let v372 : BitVec 32 := Scalar.muli v340 c1_i32_314
  let v373 : BitVec 32 := Scalar.addi c0_i32_315 v372
  v373.toNat
def k0_dev24 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_319 : BitVec 32 := 7#32
  let v381 : BitVec 32 := Scalar.addi v2 c7_i32_319
  let c16_i32_320 : BitVec 32 := 16#32
  let v382 : BitVec 32 := Scalar.remsi v381 c16_i32_320
  let c1_i32_348 : BitVec 32 := 1#32
  let v414 : BitVec 32 := Scalar.muli v382 c1_i32_348
  let v415 : BitVec 32 := Scalar.addi c0_i32_349 v414
  v415.toNat
def k0_dev25 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_353 : BitVec 32 := 8#32
  let v423 : BitVec 32 := Scalar.addi v2 c8_i32_353
  let c16_i32_354 : BitVec 32 := 16#32
  let v424 : BitVec 32 := Scalar.remsi v423 c16_i32_354
  let c1_i32_382 : BitVec 32 := 1#32
  let v456 : BitVec 32 := Scalar.muli v424 c1_i32_382
  let v457 : BitVec 32 := Scalar.addi c0_i32_383 v456
  v457.toNat
def k0_dev26 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_387 : BitVec 32 := 9#32
  let v465 : BitVec 32 := Scalar.addi v2 c9_i32_387
  let c16_i32_388 : BitVec 32 := 16#32
  let v466 : BitVec 32 := Scalar.remsi v465 c16_i32_388
  let c1_i32_416 : BitVec 32 := 1#32
  let v498 : BitVec 32 := Scalar.muli v466 c1_i32_416
  let v499 : BitVec 32 := Scalar.addi c0_i32_417 v498
  v499.toNat
def k0_dev27 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_421 : BitVec 32 := 10#32
  let v507 : BitVec 32 := Scalar.addi v2 c10_i32_421
  let c16_i32_422 : BitVec 32 := 16#32
  let v508 : BitVec 32 := Scalar.remsi v507 c16_i32_422
  let c1_i32_450 : BitVec 32 := 1#32
  let v540 : BitVec 32 := Scalar.muli v508 c1_i32_450
  let v541 : BitVec 32 := Scalar.addi c0_i32_451 v540
  v541.toNat
def k0_dev28 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_455 : BitVec 32 := 11#32
  let v549 : BitVec 32 := Scalar.addi v2 c11_i32_455
  let c16_i32_456 : BitVec 32 := 16#32
  let v550 : BitVec 32 := Scalar.remsi v549 c16_i32_456
  let c1_i32_484 : BitVec 32 := 1#32
  let v582 : BitVec 32 := Scalar.muli v550 c1_i32_484
  let v583 : BitVec 32 := Scalar.addi c0_i32_485 v582
  v583.toNat
def k0_dev29 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_489 : BitVec 32 := 12#32
  let v591 : BitVec 32 := Scalar.addi v2 c12_i32_489
  let c16_i32_490 : BitVec 32 := 16#32
  let v592 : BitVec 32 := Scalar.remsi v591 c16_i32_490
  let c1_i32_518 : BitVec 32 := 1#32
  let v624 : BitVec 32 := Scalar.muli v592 c1_i32_518
  let v625 : BitVec 32 := Scalar.addi c0_i32_519 v624
  v625.toNat
def k0_dev30 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_523 : BitVec 32 := 13#32
  let v633 : BitVec 32 := Scalar.addi v2 c13_i32_523
  let c16_i32_524 : BitVec 32 := 16#32
  let v634 : BitVec 32 := Scalar.remsi v633 c16_i32_524
  let c1_i32_552 : BitVec 32 := 1#32
  let v666 : BitVec 32 := Scalar.muli v634 c1_i32_552
  let v667 : BitVec 32 := Scalar.addi c0_i32_553 v666
  v667.toNat
def k0_dev31 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_557 : BitVec 32 := 14#32
  let v675 : BitVec 32 := Scalar.addi v2 c14_i32_557
  let c16_i32_558 : BitVec 32 := 16#32
  let v676 : BitVec 32 := Scalar.remsi v675 c16_i32_558
  let c1_i32_578 : BitVec 32 := 1#32
  let v700 : BitVec 32 := Scalar.muli v676 c1_i32_578
  let v701 : BitVec 32 := Scalar.addi c0_i32_579 v700
  v701.toNat
def k0_dev32 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_583 : BitVec 32 := 15#32
  let v709 : BitVec 32 := Scalar.addi v2 c15_i32_583
  let c16_i32_584 : BitVec 32 := 16#32
  let v710 : BitVec 32 := Scalar.remsi v709 c16_i32_584
  let c1_i32_604 : BitVec 32 := 1#32
  let v734 : BitVec 32 := Scalar.muli v710 c1_i32_604
  let v735 : BitVec 32 := Scalar.addi c0_i32_605 v734
  v735.toNat
def k0_off4 (d0 : Dev nD) (c0_i32_609 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v743 : BitVec 32 := Scalar.subi v2 c0_i32_609
  let c16_i32_610 : BitVec 32 := 16#32
  let v744 : BitVec 32 := Scalar.addi v743 c16_i32_610
  let c16_i32_611 : BitVec 32 := 16#32
  let v745 : BitVec 32 := Scalar.remsi v744 c16_i32_611
  ![v745.toNat]
def k0_off5 (d0 : Dev nD) (c0_i32_609 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v743 : BitVec 32 := Scalar.subi v2 c0_i32_609
  let c16_i32_610 : BitVec 32 := 16#32
  let v744 : BitVec 32 := Scalar.addi v743 c16_i32_610
  let c16_i32_611 : BitVec 32 := 16#32
  let v745 : BitVec 32 := Scalar.remsi v744 c16_i32_611
  let c256_i32_612 : BitVec 32 := 256#32
  let v746 : BitVec 32 := Scalar.muli v745 c256_i32_612
  let c0_i32_617 : BitVec 32 := 0#32
  ![v746.toNat, 0]
def k0_off6 (d0 : Dev nD) (c0_i32_609 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v743 : BitVec 32 := Scalar.subi v2 c0_i32_609
  let c16_i32_610 : BitVec 32 := 16#32
  let v744 : BitVec 32 := Scalar.addi v743 c16_i32_610
  let c16_i32_611 : BitVec 32 := 16#32
  let v745 : BitVec 32 := Scalar.remsi v744 c16_i32_611
  let c256_i32_620 : BitVec 32 := 256#32
  let v754 : BitVec 32 := Scalar.muli v745 c256_i32_620
  let v755 : Index := Scalar.indexCast v754
  let c0_621 : Index := 0#32
  ![v755.toNat, 0]
abbrev stage0_0 : Fin 1 → Memref sig .tc .vmem S256x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Prog.lean ====
/- The kernel's body as a program over the step number.

The printed body is unrolled: sixteen signals, sixteen compute-and-send steps, sixteen drains and sixteen waits, each
with literal offsets. This module writes each of those four stretches once, as a function of the step `t : Fin 16`
over the actual buffers, and shows that the printed body is the sequence of them (`cc0_body_eq`). Offsets, devices and
semaphores are stated in closed form: step `t` of device `d` works for device `d + t`, and drain `t` reads the rows
that device `d - t` sent. -/
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.ScatterProof

open Cert.KernelIdeal Cert.KernelIdeal.Gen
open Idealize.ShloMosaic Idealize.ShloMosaic.TcCoe
open Idealize.SL Idealize.SL.Sem

variable {F : FTy → Type} [FloatOps F]

/-! ## The buffers -/

/-- This device's rows of the activations, staged. -/
abbrev xM : Memref sig .tc .vmem S256x4096 .i8 := Memref.whole cc0_stg0_0
/-- The weights. -/
abbrev gM : Memref sig .tc .hbm S4096x8192 .i8 := Memref.whole main_arg1
/-- The two scales, staged. -/
abbrev s1M : Memref sig .tc .smem S1 .f32 := Memref.whole cc0_stg1_0
abbrev s2M : Memref sig .tc .smem S1 .f32 := Memref.whole cc0_stg2_0
/-- The result, staged. -/
abbrev oM : Memref sig .tc .vmem S4096x512 .f32 := Memref.whole cc0_stg3_0
/-- The two slots that the weights' column blocks are copied into. -/
abbrev wM : Memref sig .tc .vmem S2x4096x512 .i8 := Memref.whole cc0_scratch0
/-- The sixteen slots that the computed blocks are sent from. -/
abbrev cM : Memref sig .tc .vmem S16x256x512 .bf16 := Memref.whole cc0_scratch2
/-- The sixteen row blocks that the other devices' blocks land in. -/
abbrev rM : Memref sig .tc .vmem S4096x512 .bf16 := Memref.whole cc0_scratch3

/-- The program's effects at a TensorCore. -/
abbrev Pg (A : Type) := Prog (TpuEff nD τ sig (Elt F) Λ₀ .tc) A

/-! ## The semaphores -/

/-- The barrier semaphore. -/
abbrev barS : Sem sig := (SemArray.scalar (sig.barrier 0 rfl) : Sems sig S_).sem
/-- The semaphore of the copies into slot `s`. -/
def wSem (s : Fin 2) : DmaSem sig := ⟨4 + s.val, by have := s.isLt; show _ < 38; omega⟩
/-- The semaphore that the send of step `t` completes on, here. -/
def sSem (t : Fin 16) : DmaSem sig := ⟨6 + t.val, by have := t.isLt; show _ < 38; omega⟩
/-- The semaphore that the block of device `q` completes on, at its receiver. -/
def rSem (q : Fin 16) : DmaSem sig := ⟨22 + q.val, by have := q.isLt; show _ < 38; omega⟩

/-! ## Offsets: in bounds, on whole words -/

theorem w_inb : ∀ (s : Fin 2) (a : Fin 3), (![s.val, 0, 0] : Fin 3 → Nat) a + S1x4096x512.size a ≤ S2x4096x512.size a := by decide
theorem w_words : ∀ s : Fin 2, (Rect.unit (s := S2x4096x512) ![s.val, 0, 0] S1x4096x512.size (w_inb s)).WholeWords (EltTy.packing .i8) := by decide
theorem c_inb : ∀ (t : Fin 16) (a : Fin 3), (![t.val, 0, 0] : Fin 3 → Nat) a + S1x256x512.size a ≤ S16x256x512.size a := by decide
theorem c_words : ∀ t : Fin 16, (Rect.unit (s := S16x256x512) ![t.val, 0, 0] S1x256x512.size (c_inb t)).WholeWords (EltTy.packing .bf16) := by decide
theorem c_packed : ∀ t : Fin 16, (Rect.unit (s := S16x256x512) ![t.val, 0, 0] S1x256x512.size (c_inb t)).PackedRows (EltTy.packing .bf16) := by decide
theorem r_inb : ∀ (q : Fin 16) (a : Fin 2), (![256 * q.val, 0] : Fin 2 → Nat) a + S256x512.size a ≤ S4096x512.size a := by decide
theorem r_words : ∀ q : Fin 16, (Rect.unit (s := S4096x512) ![256 * q.val, 0] S256x512.size (r_inb q)).WholeWords (EltTy.packing .bf16) := by decide
theorem g_inb : ∀ (p : Fin 16) (a : Fin 2), (![0, 512 * p.val] : Fin 2 → Nat) a + S4096x512.size a ≤ S4096x8192.size a := by decide
theorem g_words : ∀ p : Fin 16, (Rect.unit (s := S4096x8192) ![0, 512 * p.val] S4096x512.size (g_inb p)).WholeWords (EltTy.packing .i8) := by decide

/-- Slot `s` of the weights' buffer. -/
abbrev wRect (s : Fin 2) : Rect S2x4096x512 := Rect.unit (s := S2x4096x512) ![s.val, 0, 0] S1x4096x512.size (w_inb s)
/-- Slot `t` of the send buffer. -/
abbrev cRect (t : Fin 16) : Rect S16x256x512 := Rect.unit (s := S16x256x512) ![t.val, 0, 0] S1x256x512.size (c_inb t)
/-- Row block `q` of the landing buffer, and of the result. -/
abbrev rRect (q : Fin 16) : Rect S4096x512 := Rect.unit (s := S4096x512) ![256 * q.val, 0] S256x512.size (r_inb q)
/-- Column block `p` of the weights. -/
abbrev gRect (p : Fin 16) : Rect S4096x8192 := Rect.unit (s := S4096x8192) ![0, 512 * p.val] S4096x512.size (g_inb p)

abbrev wSlot (s : Fin 2) : Memref sig .tc .vmem S4096x512 .i8 := (wM.slice (wRect s) (fun _ => rfl)).squeeze S4096x512 squeezes_S1x4096x512_S4096x512
abbrev cSlot (t : Fin 16) : Memref sig .tc .vmem S256x512 .bf16 := (cM.slice (cRect t) (fun _ => rfl)).squeeze S256x512 squeezes_S1x256x512_S256x512
abbrev rRows (q : Fin 16) : Memref sig .tc .vmem S256x512 .bf16 := rM.slice (rRect q) (fun _ => rfl)
abbrev gCols (p : Fin 16) : Memref sig .tc .hbm S4096x512 .i8 := gM.slice (gRect p) (fun _ => rfl)

/-! ## The pieces -/

/-- The block that a step computes, from the scale, the activations' rows and the weights' slot. -/
def pay (v5 : F .f32) (x : Vec F S256x4096 .i8) (w : Vec F S1x4096x512 .i8) : FVec F S1x256x512 .bf16 := k0_pay5 v5 x w

/-- Start copying the weights' columns at `off` into slot `s`. -/
def startAt (off : Fin 2 → Nat) (inb : ∀ a, off a + S4096x512.size a ≤ S4096x8192.size a)
    (hw : (Rect.unit (s := S4096x8192) off S4096x512.size inb).WholeWords (EltTy.packing .i8)) (sm : DmaSem sig) (s : Fin 2) : Pg (F := F) PUnit :=
  Prog.lift (.enqueueDma (gM.slice (Rect.unit (s := S4096x8192) off S4096x512.size inb) (fun _ => rfl)) (.here (wSlot s)) (.dma sm)
    ((Memref.isWhole_whole main_arg1).wordExact_slice rfl _ hw) (((Memref.isWhole_whole cc0_scratch0).wordExact_slice rfl _ (w_words s)).reshape _ _) ⟨Or.inl rfl, trivial⟩)

/-- Wait for it. -/
def awaitAt (off : Fin 2 → Nat) (inb : ∀ a, off a + S4096x512.size a ≤ S4096x8192.size a)
    (hw : (Rect.unit (s := S4096x8192) off S4096x512.size inb).WholeWords (EltTy.packing .i8)) (sm : DmaSem sig) (s : Fin 2) : Pg (F := F) PUnit :=
  Prog.lift (.waitDma2 sm (gM.slice (Rect.unit (s := S4096x8192) off S4096x512.size inb) (fun _ => rfl)) (wSlot s)
    ((Memref.isWhole_whole main_arg1).wordExact_slice rfl _ hw) (((Memref.isWhole_whole cc0_scratch0).wordExact_slice rfl _ (w_words s)).reshape _ _))

/-- Send slot `t` to device `e`'s rows at `off`. -/
def sendAt (off : Fin 2 → Nat) (inb : ∀ a, off a + S256x512.size a ≤ S4096x512.size a)
    (hw : (Rect.unit (s := S4096x512) off S256x512.size inb).WholeWords (EltTy.packing .bf16)) (ss rs : DmaSem sig) (e : Dev nD) (t : Fin 16) : Pg (F := F) PUnit :=
  Prog.lift (.enqueueDma (cSlot t) (.remote (Dev.tc e) (rM.slice (Rect.unit (s := S4096x512) off S256x512.size inb) (fun _ => rfl)) (.dma ss)) (.dma rs)
    (((Memref.isWhole_whole cc0_scratch2).wordExact_slice rfl _ (c_words t)).reshape _ _) ((Memref.isWhole_whole cc0_scratch3).wordExact_slice rfl _ hw) ⟨⟨rfl, Or.inl rfl⟩, trivial⟩)

/-- Wait for the rows at `off`, and copy them to the result, widened. -/
def drainAt (off : Fin 2 → Nat) (inb : ∀ a, off a + S256x512.size a ≤ S4096x512.size a)
    (hw : (Rect.unit (s := S4096x512) off S256x512.size inb).WholeWords (EltTy.packing .bf16)) (rs : DmaSem sig)
    (off' : Fin 2 → Nat) (inb' : ∀ a, off' a + S256x512.size a ≤ S4096x512.size a) : Pg (F := F) PUnit := do
  Prog.lift (.waitDma2 rs (cSlot 0) (rM.slice (Rect.unit (s := S4096x512) off S256x512.size inb) (fun _ => rfl))
    (((Memref.isWhole_whole cc0_scratch2).wordExact_slice rfl _ (c_words 0)).reshape _ _) ((Memref.isWhole_whole cc0_scratch3).wordExact_slice rfl _ hw))
  let v : Vec F S256x512 .bf16 ← Prog.lift (.load rM (Rect.unit (s := S4096x512) off' S256x512.size inb').toLoadRect (View.loadsAt_vmem h_S256x512))
  let _v : Vec F S256x512 .f32 ← Prog.lift (.load oM (Rect.unit (s := S4096x512) off' S256x512.size inb').toLoadRect (View.loadsAt_vmem h_S256x512))
  Prog.lift (.store oM (Rect.unit (s := S4096x512) off' S256x512.size inb') (k0_pay29 v) Finset.univ (View.stores_vmem_bits_univ h_S256x512 rfl) (.inl rfl))

/-- Wait for the send of step `t` to have left its slot. -/
def sentAt (ss : DmaSem sig) (t : Fin 16) : Pg (F := F) PUnit :=
  Prog.lift (.waitDma2 ss (rM.slice (Rect.unit (s := S4096x512) ![0, 0] S256x512.size inb_S4096x512_S256x512_0_0) (fun _ => rfl)) (cSlot t)
    ((Memref.isWhole_whole cc0_scratch3).wordExact_slice rfl _ wordsbf16_S4096x512_S256x512_0_0) (((Memref.isWhole_whole cc0_scratch2).wordExact_slice rfl _ (c_words t)).reshape _ _))

/-- Compute into slot `t`. -/
def compute (v5 : F .f32) (s : Fin 2) (t : Fin 16) (next : Pg (F := F) PUnit) : Pg (F := F) PUnit := do
  let x : Vec F S256x4096 .i8 ← Prog.lift (.load xM (Rect.unit (s := S256x4096) ![0, 0] S256x4096.size inb_S256x4096_S256x4096_0_0).toLoadRect (View.loadsAt_vmem h_S256x4096))
  let w : Vec F S1x4096x512 .i8 ← Prog.lift (.load wM (wRect s).toLoadRect (View.loadsAt_vmem h_S1x4096x512))
  next
  let _v : Vec F S1x256x512 .bf16 ← Prog.lift (.load cM (cRect t).toLoadRect (View.loadsAt_vmem h_S1x256x512))
  Prog.lift (.store cM (cRect t) (pay v5 x w) Finset.univ (View.stores_vmem h_S1x256x512 ((Memref.isWhole_whole cc0_scratch2).storeExact_slice rfl _ (c_packed t)) (fun _ => rfl)) (.inl rfl))

/-! ## The printed body, piece by piece -/

/-- The slot of step `t`. -/
def par (t : ℕ) : Fin 2 := ⟨t % 2, Nat.mod_lt _ (by decide)⟩

def wSemP (s : Fin 2) : DmaSem sig :=
  match s with
  | 0 => ((cc0_scratch1.slice (Rect.unit (s := S2) ![0] S1.size inb_S2_S1_0)).squeeze S_ squeezes_S1_S_).sem
  | 1 => ((cc0_scratch1.slice (Rect.unit (s := S2) ![1] S1.size inb_S2_S1_1)).squeeze S_ squeezes_S1_S_).sem
theorem s_inb : ∀ (t : Fin 16) (a : Fin 1), (![t.val] : Fin 1 → Nat) a + S1.size a ≤ S16.size a := by decide
def sSemP (t : Fin 16) : DmaSem sig := ((cc0_scratch4.slice (Rect.unit (s := S16) ![t.val] S1.size (s_inb t))).squeeze S_ squeezes_S1_S_).sem
def rSemP (off : Fin 1 → Nat) (inb : ∀ a, off a + S1.size a ≤ S16.size a) : DmaSem sig :=
  ((cc0_scratch5.slice (Rect.unit (s := S16) off S1.size inb)).squeeze S_ squeezes_S1_S_).sem

/-- The device that signal `t` goes to, as printed. -/
def sigDev (d : Dev nD) : Fin 16 → Dev nD := fun
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩
  | 4 => ⟨k0_dev5 d, k0_dev5_lt d⟩ | 5 => ⟨k0_dev6 d, k0_dev6_lt d⟩ | 6 => ⟨k0_dev7 d, k0_dev7_lt d⟩ | 7 => ⟨k0_dev8 d, k0_dev8_lt d⟩
  | 8 => ⟨k0_dev9 d, k0_dev9_lt d⟩ | 9 => ⟨k0_dev10 d, k0_dev10_lt d⟩ | 10 => ⟨k0_dev11 d, k0_dev11_lt d⟩ | 11 => ⟨k0_dev12 d, k0_dev12_lt d⟩
  | 12 => ⟨k0_dev13 d, k0_dev13_lt d⟩ | 13 => ⟨k0_dev14 d, k0_dev14_lt d⟩ | 14 => ⟨k0_dev15 d, k0_dev15_lt d⟩ | 15 => ⟨k0_dev16 d, k0_dev16_lt d⟩
  | ⟨_ + 16, h⟩ => absurd h (Nat.not_lt.2 (Nat.le_add_left _ _))
/-- The device that step `t` sends to, as printed. -/
def sendDev (d : Dev nD) : Fin 16 → Dev nD := fun
  | 0 => ⟨k0_dev17 d, k0_dev17_lt d⟩ | 1 => ⟨k0_dev18 d, k0_dev18_lt d⟩ | 2 => ⟨k0_dev19 d, k0_dev19_lt d⟩ | 3 => ⟨k0_dev20 d, k0_dev20_lt d⟩
  | 4 => ⟨k0_dev21 d, k0_dev21_lt d⟩ | 5 => ⟨k0_dev22 d, k0_dev22_lt d⟩ | 6 => ⟨k0_dev23 d, k0_dev23_lt d⟩ | 7 => ⟨k0_dev24 d, k0_dev24_lt d⟩
  | 8 => ⟨k0_dev25 d, k0_dev25_lt d⟩ | 9 => ⟨k0_dev26 d, k0_dev26_lt d⟩ | 10 => ⟨k0_dev27 d, k0_dev27_lt d⟩ | 11 => ⟨k0_dev28 d, k0_dev28_lt d⟩
  | 12 => ⟨k0_dev29 d, k0_dev29_lt d⟩ | 13 => ⟨k0_dev30 d, k0_dev30_lt d⟩ | 14 => ⟨k0_dev31 d, k0_dev31_lt d⟩ | 15 => ⟨k0_dev32 d, k0_dev32_lt d⟩
  | ⟨_ + 16, h⟩ => absurd h (Nat.not_lt.2 (Nat.le_add_left _ _))

/-- `f 0`, …, `f (n - 1)` in order, counted by how many are left. -/
def seqN {n : ℕ} (f : Fin n → Pg (F := F) PUnit) : (k : ℕ) → k ≤ n → Pg (F := F) PUnit
  | 0, _ => pure ⟨⟩
  | k + 1, h => do f ⟨n - (k + 1), by omega⟩; seqN f k (by omega)

def startP (d : Dev nD) (t : Fin 16) : Pg (F := F) PUnit :=
  startAt (k0_off1 d (BitVec.ofNat 32 t.val)) (k0_off1_inb d t) (k0_off1_wordsi8 d t) (wSemP (par t.val)) (par t.val)

/-- Step `t` as printed. -/
def stepP (v5 : F .f32) (d : Dev nD) (t : Fin 16) : Pg (F := F) PUnit := do
  awaitAt (k0_off1 d (BitVec.ofNat 32 t.val)) (k0_off1_inb d t) (k0_off1_wordsi8 d t) (wSemP (par t.val)) (par t.val)
  compute v5 (par t.val) t (if h : t.val + 2 < 16 then startP d ⟨t.val + 2, h⟩ else pure ⟨⟩)
  sendAt (k0_off3 d) (k0_off3_inb d) (k0_off3_wordsbf16 d) (sSemP t) (rSemP (k0_off2 d) (k0_off2_inb d)) (sendDev d t) t

def drainP (d : Dev nD) (t : Fin 16) : Pg (F := F) PUnit :=
  drainAt (k0_off5 d (BitVec.ofNat 32 t.val)) (k0_off5_inb d t) (k0_off5_wordsbf16 d t)
    (rSemP (k0_off4 d (BitVec.ofNat 32 t.val)) (k0_off4_inb d t)) (k0_off6 d (BitVec.ofNat 32 t.val)) (k0_off6_inb d t)

/-- The body as printed, over the four stretches. -/
def bodyP : Pg (F := F) PUnit := do
  let d : Dev nD ← Prog.lift .deviceId
  let a : Elt F .f32 ← smemLoad s1M (Rect.unit (s := S1) ![0] S1.size inb_S1_S1_0) numel1_S1 rfl
  let b : Elt F .f32 ← smemLoad s2M (Rect.unit (s := S1) ![0] S1.size inb_S1_S1_0) numel1_S1 rfl
  seqN (n := 16) (fun t => semSignalWord (sigDev d t) barS 1#32) 16 (Nat.le_refl _)
  semWaitWord barS 16#32
  startP d 0
  startP d 1
  seqN (n := 16) (stepP (k0_pay1 a b) d) 16 (Nat.le_refl _)
  seqN (n := 16) (drainP d) 16 (Nat.le_refl _)
  seqN (n := 16) (fun t => sentAt (sSemP t) t) 16 (Nat.le_refl _)

set_option maxRecDepth 100000 in
set_option maxHeartbeats 4000000 in
theorem cc0_body_eq_printed :
    cc0_body (F := F) xM (hstage0_0 0) gM (Memref.isWhole_whole _) s1M (hstage0_1 0) s2M (hstage0_2 0) oM (hstage0_3 0) wM (Memref.isWhole_whole _) cc0_scratch1
      cM (Memref.isWhole_whole _) rM (Memref.isWhole_whole _) cc0_scratch4 cc0_scratch5 = bodyP := by
  rfl

end Cert.ScatterProof

end
-- ==== Proof.Canon.lean ====
/- The kernel's body in closed form.

The program of `Prog.lean` still carries the printed offset chains. Here every offset, device and semaphore is a closed
form of the device `d` and the step `t`: step `t` works for device `up d t = d + t` (modulo sixteen) and drain `t` reads
the rows that device `dn d t = d - t` sent. -/
module

public import proofs.«01_k».proof.Proof.Prog

@[expose] public section

set_option maxRecDepth 16384

noncomputable section

namespace Cert.ScatterProof

open Cert.KernelIdeal Cert.KernelIdeal.Gen
open Idealize.ShloMosaic Idealize.ShloMosaic.TcCoe
open Idealize.SL Idealize.SL.Sem

variable {F : FTy → Type} [FloatOps F]

/-! ## The ring of devices -/

/-- The device `t` places on. -/
def up (d : Dev nD) (t : Fin 16) : Dev nD := ⟨(d.val + t.val) % 16, Nat.mod_lt _ (by decide)⟩
/-- The device `t` places back. -/
def dn (d : Dev nD) (t : Fin 16) : Dev nD := ⟨((d.val + 16) - t.val) % 16, Nat.mod_lt _ (by decide)⟩

theorem up_lt (d : Dev nD) : d.val < 16 := d.isLt

theorem dn_up (d : Dev nD) (t : Fin 16) : dn (up d t) t = d := by
  have := up_lt d; have := t.isLt
  apply Fin.ext; simp only [dn, up]; omega
theorem up_dn (d : Dev nD) (t : Fin 16) : up (dn d t) t = d := by
  have := up_lt d; have := t.isLt
  apply Fin.ext; simp only [dn, up]; omega

/-- The devices in the order of the steps of device `d`. -/
def upE (d : Dev nD) : Fin 16 ≃ Dev nD where
  toFun t := up d t
  invFun p := ⟨((p.val + 16) - d.val) % 16, Nat.mod_lt _ (by decide)⟩
  left_inv t := by
    have := up_lt d; have := t.isLt
    apply Fin.ext; simp only [up]; omega
  right_inv p := by
    have := up_lt d; have := up_lt p
    apply Fin.ext; simp only [up]; omega
/-- The devices in the order of the drains of device `d`. -/
def dnE (d : Dev nD) : Fin 16 ≃ Dev nD where
  toFun t := dn d t
  invFun p := ⟨((d.val + 16) - p.val) % 16, Nat.mod_lt _ (by decide)⟩
  left_inv t := by
    have := up_lt d; have := t.isLt
    apply Fin.ext; simp only [dn]; omega
  right_inv p := by
    have := up_lt d; have := up_lt p
    apply Fin.ext; simp only [dn]; omega

theorem sigDev_eq (d : Dev nD) (t : Fin 16) : sigDev d t = up d t := by revert d t; decide +kernel
theorem sendDev_eq (d : Dev nD) (t : Fin 16) : sendDev d t = up d t := by revert d t; decide +kernel

theorem wSemP_eq (s : Fin 2) : wSemP s = wSem s := by revert s; decide +kernel
theorem sSemP_eq (t : Fin 16) : sSemP t = sSem t := by revert t; decide +kernel
theorem rSemP_eq' (q : Fin 16) : rSemP ![q.val] (s_inb q) = rSem q := by revert q; decide +kernel
theorem rSemP_eq (q : Fin 16) {off : Fin 1 → Nat} (h : off = ![q.val]) (inb : ∀ a, off a + S1.size a ≤ S16.size a) : rSemP off inb = rSem q := by
  subst h; exact rSemP_eq' q

/-! ## The pieces -/

/-- Start copying the columns of device `p` into slot `s`. -/
def startC (p : Dev nD) (s : Fin 2) : Pg (F := F) PUnit := startAt ![0, 512 * p.val] (g_inb p) (g_words p) (wSem s) s
/-- Step `t` of device `d`. -/
def stepC (v5 : F .f32) (d : Dev nD) (t : Fin 16) : Pg (F := F) PUnit := do
  awaitAt ![0, 512 * (up d t).val] (g_inb (up d t)) (g_words (up d t)) (wSem (par t.val)) (par t.val)
  compute v5 (par t.val) t (if h : t.val + 2 < 16 then startC (up d ⟨t.val + 2, h⟩) (par (t.val + 2)) else pure ⟨⟩)
  sendAt ![256 * d.val, 0] (r_inb d) (r_words d) (sSem t) (rSem d) (up d t) t
/-- Take over the rows of device `q`. -/
def drainC (q : Dev nD) : Pg (F := F) PUnit := drainAt ![256 * q.val, 0] (r_inb q) (r_words q) (rSem q) ![256 * q.val, 0] (r_inb q)

theorem startAt_congr {off off' : Fin 2 → Nat} (h : off = off') (inb hw inb' hw') (sm sm' : DmaSem sig) (hs : sm = sm') (s : Fin 2) :
    startAt (F := F) off inb hw sm s = startAt off' inb' hw' sm' s := by subst h; subst hs; rfl
theorem awaitAt_congr {off off' : Fin 2 → Nat} (h : off = off') (inb hw inb' hw') (sm sm' : DmaSem sig) (hs : sm = sm') (s : Fin 2) :
    awaitAt (F := F) off inb hw sm s = awaitAt off' inb' hw' sm' s := by subst h; subst hs; rfl
theorem sendAt_congr {off off' : Fin 2 → Nat} (h : off = off') (inb hw inb' hw') (ss ss' rs rs' : DmaSem sig) (hs : ss = ss') (hr : rs = rs')
    (e e' : Dev nD) (he : e = e') (t : Fin 16) :
    sendAt (F := F) off inb hw ss rs e t = sendAt off' inb' hw' ss' rs' e' t := by subst h; subst hs; subst hr; subst he; rfl
theorem drainAt_congr {off off' o2 o2' : Fin 2 → Nat} (h : off = off') (h2 : o2 = o2') (inb hw inb' hw') (rs rs' : DmaSem sig) (hr : rs = rs') (i i') :
    drainAt (F := F) off inb hw rs o2 i = drainAt off' inb' hw' rs' o2' i' := by subst h; subst h2; subst hr; rfl

theorem startP_eq (d : Dev nD) (t : Fin 16) : startP (F := F) d t = startC (up d t) (par t.val) :=
  startAt_congr (k0_off1_eq d t) _ _ _ _ _ _ (wSemP_eq _) _
theorem stepP_eq (v5 : F .f32) (d : Dev nD) : stepP v5 d = stepC v5 d := by
  funext t
  unfold stepP stepC
  rw [awaitAt_congr (k0_off1_eq d t) _ _ (g_inb (up d t)) (g_words (up d t)) _ _ (wSemP_eq _) _]
  rw [sendAt_congr (k0_off3_eq d) _ _ (r_inb d) (r_words d) _ _ _ _ (sSemP_eq t) (rSemP_eq d (k0_off2_eq d) _) _ _ (sendDev_eq d t) t]
  simp only [startP_eq]
  rfl
theorem drainP_eq (d : Dev nD) : drainP (F := F) d = fun t => drainC (dn d t) := by
  funext t
  exact drainAt_congr (k0_off5_eq d t) (k0_off6_eq d t) _ _ _ _ _ _ (rSemP_eq (dn d t) (k0_off4_eq d t) _) _ _

/-- The body in closed form. -/
def bodyC : Pg (F := F) PUnit := do
  let d : Dev nD ← Prog.lift .deviceId
  let a : Elt F .f32 ← smemLoad s1M (Rect.unit (s := S1) ![0] S1.size inb_S1_S1_0) numel1_S1 rfl
  let b : Elt F .f32 ← smemLoad s2M (Rect.unit (s := S1) ![0] S1.size inb_S1_S1_0) numel1_S1 rfl
  seqN (n := 16) (fun t => semSignalWord (up d t) barS 1#32) 16 (Nat.le_refl _)
  semWaitWord barS 16#32
  startC (up d 0) (par 0)
  startC (up d 1) (par 1)
  seqN (n := 16) (stepC (k0_pay1 a b) d) 16 (Nat.le_refl _)
  seqN (n := 16) (fun t => drainC (dn d t)) 16 (Nat.le_refl _)
  seqN (n := 16) (fun t => sentAt (sSem t) t) 16 (Nat.le_refl _)

theorem bodyP_eq : bodyP (F := F) = bodyC := by
  unfold bodyP bodyC
  simp only [stepP_eq, drainP_eq, startP_eq, sigDev_eq, sSemP_eq]
  rfl

theorem cc0_body_eq :
    cc0_body (F := F) xM (hstage0_0 0) gM (Memref.isWhole_whole _) s1M (hstage0_1 0) s2M (hstage0_2 0) oM (hstage0_3 0) wM (Memref.isWhole_whole _) cc0_scratch1
      cM (Memref.isWhole_whole _) rM (Memref.isWhole_whole _) cc0_scratch4 cc0_scratch5 = bodyC :=
  cc0_body_eq_printed.trans bodyP_eq

end Cert.ScatterProof

end
-- ==== Proof.Sched.lean ====
/- The protocol of the sixteen devices: who waits, who raises, how much, and what each landing hands over.

Per device `c`, one round each:

* the barrier semaphore: every device raises it once, the device `p` handing over its row block `c` of the landing
  buffer, which `c` alone writes; device `c` waits for all sixteen before its first send;
* the send semaphore of step `t`: the transfer of step `t` raises it by a block's credit, handing back slot `t`;
* the receive semaphore `q`: the transfer of device `q` raises it by a block's credit, handing over row block `q` of
  `c`'s landing buffer, holding the block that `q` computed for `c`.

The two semaphores of the weights' copies are only used by their own device, one copy at a time.
-/
module

public import proofs.«01_k».proof.Proof.Canon
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Ring

@[expose] public section

set_option maxRecDepth 16384

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)

variable {F : FTy → Type} [FloatOps F]

/-! ## The resource algebra -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb : UEmb UU (MT nD τ sig Unit (Elt F) ℕ UU ℕ)).toEmb
instance ER_landsIn : (ER (F := F)).LandsIn (upEmb : UEmb _ 𝕄) := by unfold ER; infer_instance

variable (m : (ℓ : Loc nD τ sig) → Buf (Elt F) ℓ) (ρ : Dev nD → PrngReg)

/-- The memory at launch. -/
def s₀ : MemSt nD τ sig (Elt F) := ⟨m, fun _ => 0, ρ⟩

/-! ## The cells -/

abbrev barCell (c : Dev nD) : GSem nD τ sig := ((c : Thread nD τ), .reg barS)
abbrev wCell (c : Dev nD) (s : Fin 2) : GSem nD τ sig := ((c : Thread nD τ), .dma (wSem s))
abbrev sCell (c : Dev nD) (t : Fin 16) : GSem nD τ sig := ((c : Thread nD τ), .dma (sSem t))
abbrev rCell (c : Dev nD) (q : Fin 16) : GSem nD τ sig := ((c : Thread nD τ), .dma (rSem q))

/-- The cells of one device: its barrier, its sends, its receives. -/
abbrev Kd : Type := Unit ⊕ (Fin 16 ⊕ Fin 16)
def csem : Kd → SemLoc sig
  | .inl _ => .reg barS
  | .inr (.inl t) => .dma (sSem t)
  | .inr (.inr q) => .dma (rSem q)
abbrev kcell (ck : Dev nD × Kd) : GSem nD τ sig := ((ck.1 : Thread nD τ), csem ck.2)
abbrev kB : Kd := .inl ()
abbrev kS (t : Fin 16) : Kd := .inr (.inl t)
abbrev kR (q : Fin 16) : Kd := .inr (.inr q)

theorem sSem_val (t : Fin 16) : (sSem t).val = 6 + t.val := rfl
theorem rSem_val (q : Fin 16) : (rSem q).val = 22 + q.val := rfl
theorem wSem_val (s : Fin 2) : (wSem s).val = 4 + s.val := rfl

/-- A block's credit. -/
abbrev NB : ℕ := (rRows 0).view.dmaCredit
theorem NB_pos : 0 < NB := View.dmaCredit_pos _ (by decide)
theorem credit_r (q : Fin 16) : (rRows q).view.dmaCredit = NB := rfl
theorem credit_c (t : Fin 16) : (cSlot t).view.dmaCredit = NB := rfl

/-! ## The contents -/

/-- Device `c`'s rows of the activations. -/
def xstg (c : Dev nD) : (cc0_stg0_0 : Ref sig .tc).ty.Contents (Elt F) :=
  (win0_0.blk (0 : Fin 1)).view.read (Elt F) ((s₀ m ρ).mem ((c : Thread nD τ).loc main_arg0))
/-- The two scales. -/
def s1stg (c : Dev nD) : (cc0_stg1_0 : Ref sig .tc).ty.Contents (Elt F) :=
  (win0_1.blk (0 : Fin 1)).view.read (Elt F) ((s₀ m ρ).mem ((c : Thread nD τ).loc main_arg2))
def s2stg (c : Dev nD) : (cc0_stg2_0 : Ref sig .tc).ty.Contents (Elt F) :=
  (win0_2.blk (0 : Fin 1)).view.read (Elt F) ((s₀ m ρ).mem ((c : Thread nD τ).loc main_arg3))
/-- The weights. -/
def wmem (c : Dev nD) : (main_arg1 : Ref sig .tc).ty.Contents (Elt F) := m ((c : Thread nD τ).loc main_arg1)

abbrev r1 : Rect S1 := Rect.unit (s := S1) ![0] S1.size inb_S1_S1_0
/-- The product of the scales. -/
def scale (c : Dev nD) : F .f32 :=
  k0_pay1 ((s1M.access r1).read (Elt F) (s1stg m ρ c) (Shape.Idx.first (numel1_S1.symm ▸ Nat.one_pos)))
    ((s2M.access r1).read (Elt F) (s2stg m ρ c) (Shape.Idx.first (numel1_S1.symm ▸ Nat.one_pos)))

/-- Column block `p` of the weights of device `c`. -/
def wcols (c p : Dev nD) : Vec F S4096x512 .i8 := (gCols p).view.read (Elt F) (wmem m c)

theorem nW : S4096x512.numel = S1x4096x512.numel := squeezes_S1x4096x512_S4096x512.numel_eq
theorem nC : S256x512.numel = S1x256x512.numel := squeezes_S1x256x512_S256x512.numel_eq

/-- A block with the slot's leading axis of one. -/
def slotted (X : Vec F S4096x512 .i8) : Vec F S1x4096x512 .i8 := fun i => X ((Shape.reshapeEquiv nW).symm i)

/-- The block that device `c` computes for device `p`, as stored; -/
def blk3 (c p : Dev nD) : Vec F S1x256x512 .bf16 := pay (scale m ρ c) (xstg m ρ c) (slotted (wcols m c p))
/-- and as sent. -/
def blk (c p : Dev nD) : Vec F S256x512 .bf16 := fun y => blk3 m ρ c p (Shape.reshapeEquiv nC y)

/-! ## What the landings hand over -/

/-- Slot `t` of the send buffer, at any contents. -/
def sPay (c : Dev nD) (t : Fin 16) : sProp 𝕄 := iprop(∃ f, (cSlot t).view.loc (c : Thread nD τ) ↦[(cSlot t).view.set]{fullShare} f)
/-- Row block `q` of the landing buffer, at any contents. -/
def rAny (c : Dev nD) (q : Fin 16) : sProp 𝕄 := iprop(∃ f, (rRows q).view.loc (c : Thread nD τ) ↦[(rRows q).view.set]{fullShare} f)
/-- Row block `q` of the landing buffer of `c`, holding what `q` computed for `c`. -/
def rPay (c : Dev nD) (q : Fin 16) : sProp 𝕄 := owns (c : Thread nD τ) (rRows q) fullShare (blk m ρ q c)

instance sPay_storable (c : Dev nD) (t : Fin 16) : BI.Storable (upEmb : UEmb _ 𝕄) (sPay (F := F) c t) := by unfold sPay; infer_instance
instance rAny_storable (c : Dev nD) (q : Fin 16) : BI.Storable (upEmb : UEmb _ 𝕄) (rAny (F := F) c q) := by unfold rAny; infer_instance
instance rPay_storable (c : Dev nD) (q : Fin 16) : BI.Storable (upEmb : UEmb _ 𝕄) (rPay m ρ c q) := by unfold rPay; infer_instance

/-- By the number of the DMA semaphore. -/
def dmaPay (c : Dev nD) (q : DmaSem sig) : sProp 𝕄 :=
  if h : 22 ≤ q.val then rPay m ρ c ⟨q.val - 22, by have : q.val < 38 := q.isLt; omega⟩
  else if h : 6 ≤ q.val then sPay c ⟨q.val - 6, by omega⟩ else iprop(emp)

/-- The duties of a semaphore: every device's at the barrier, the one transfer's at a send or receive semaphore. -/
def semDuties : SemLoc sig → Finset (Fin 16)
  | .reg s => if s = barS then Finset.univ else ∅
  | .dma q => if 6 ≤ q.val then {0} else ∅

/-- The schedule: one round. -/
def Rd : Rounds.Schedule (GSem nD τ sig) (Fin 16) 𝕄 where
  duties g r := if r = 0 ∧ g.1.2 = .tc then semDuties g.2 else ∅
  unitless _ := False
  amount g _ _ := match g.2 with | .reg _ => 1 | .dma _ => NB
  payload g _ d := match g.2 with | .reg _ => rAny d g.1.1 | .dma q => dmaPay m ρ g.1.1 q
  amount_pos g _ _ _ := by
    rcases g.2 with _ | _
    · exact Nat.one_pos
    · exact NB_pos

instance Rd_payload_storable (g : GSem nD τ sig) (r : ℕ) (d : Fin 16) : BI.Storable (upEmb : UEmb _ 𝕄) ((Rd m ρ).payload g r d) := by
  obtain ⟨a, s⟩ := g
  cases s with
  | reg s => show BI.Storable upEmb (rAny d a.1); infer_instance
  | dma q =>
    show BI.Storable upEmb (dmaPay m ρ a.1 q)
    unfold dmaPay; split
    · infer_instance
    · split <;> infer_instance

section Sched
variable (c : Dev nD) (t q : Fin 16)

theorem duties_bar : (Rd m ρ).duties (barCell c) 0 = Finset.univ := by
  have h : (0 : ℕ) = 0 ∧ (c : Thread nD τ).2 = .tc := ⟨rfl, rfl⟩
  refine Eq.trans (b := semDuties (.reg barS)) (if_pos (e := ∅) h) ?_
  dsimp only [semDuties]; rw [if_pos rfl]
theorem duties_send : (Rd m ρ).duties (sCell c t) 0 = {0} := by
  have h : (0 : ℕ) = 0 ∧ (c : Thread nD τ).2 = .tc := ⟨rfl, rfl⟩
  have h' := sSem_val t
  refine Eq.trans (b := semDuties (.dma (sSem t))) (if_pos (e := ∅) h) ?_
  dsimp only [semDuties]; rw [if_pos (by omega)]
theorem duties_recv : (Rd m ρ).duties (rCell c q) 0 = {0} := by
  have h : (0 : ℕ) = 0 ∧ (c : Thread nD τ).2 = .tc := ⟨rfl, rfl⟩
  have h' := rSem_val q
  refine Eq.trans (b := semDuties (.dma (rSem q))) (if_pos (e := ∅) h) ?_
  dsimp only [semDuties]; rw [if_pos (by omega)]
theorem duties_later (g : GSem nD τ sig) : ∀ r, 1 ≤ r → (Rd m ρ).duties g r = ∅ :=
  fun r hr => by
    show (if _ then _ else _) = _
    rw [if_neg fun h => by omega]

theorem amount_bar (d : Fin 16) : (Rd m ρ).amount (barCell c) 0 d = 1 := rfl
theorem amount_send (d : Fin 16) : (Rd m ρ).amount (sCell c t) 0 d = NB := rfl
theorem amount_recv (d : Fin 16) : (Rd m ρ).amount (rCell c q) 0 d = NB := rfl

theorem expect_bar : (Rd m ρ).expect (barCell c) 0 = 16 := by
  unfold Schedule.expect Schedule.amountOf
  rw [duties_bar, Finset.sum_congr rfl fun d _ => amount_bar m ρ c d, Finset.sum_const, Finset.card_univ, Fintype.card_fin, smul_eq_mul]
theorem expect_send : (Rd m ρ).expect (sCell c t) 0 = NB := by
  unfold Schedule.expect Schedule.amountOf; rw [duties_send, Finset.sum_singleton, amount_send]
theorem expect_recv : (Rd m ρ).expect (rCell c q) 0 = NB := by
  unfold Schedule.expect Schedule.amountOf; rw [duties_recv, Finset.sum_singleton, amount_recv]

theorem payload_bar (d : Fin 16) : (Rd m ρ).payload (barCell c) 0 d = rAny d c := rfl
theorem payload_send (d : Fin 16) : (Rd m ρ).payload (sCell c t) 0 d = sPay c t := by
  show dmaPay m ρ c (sSem t) = _
  unfold dmaPay
  rw [dif_neg (by rw [sSem_val]; omega), dif_pos (by rw [sSem_val]; omega)]
  congr 1; apply Fin.ext; simp only [sSem_val]; omega
theorem payload_recv (d : Fin 16) : (Rd m ρ).payload (rCell c q) 0 d = rPay m ρ c q := by
  show dmaPay m ρ c (rSem q) = _
  unfold dmaPay
  rw [dif_pos (by rw [rSem_val]; omega)]
  congr 1; apply Fin.ext; simp only [rSem_val]; omega

theorem rest_bar : bigSep ((Rd m ρ).duties (barCell c) 0 \ ∅) (fun d => (Rd m ρ).payload (barCell c) 0 d) = bigSep Finset.univ fun d : Fin 16 => rAny d c := by
  rw [Finset.sdiff_empty, duties_bar]; rfl
theorem rest_send : bigSep ((Rd m ρ).duties (sCell c t) 0 \ ∅) (fun d => (Rd m ρ).payload (sCell c t) 0 d) = sPay c t := by
  rw [Finset.sdiff_empty, duties_send, bigSep_singleton, payload_send]
theorem rest_recv : bigSep ((Rd m ρ).duties (rCell c q) 0 \ ∅) (fun d => (Rd m ρ).payload (rCell c q) 0 d) = rPay m ρ c q := by
  rw [Finset.sdiff_empty, duties_recv, bigSep_singleton, payload_recv]

end Sched

/-! ## What a device owes, and the levels -/

/-- The steps from `k` on. -/
abbrev from' (k : ℕ) : Finset (Fin 16) := Finset.univ.filter fun t => k ≤ t.val
/-- The steps before `k`. -/
abbrev upto (k : ℕ) : Finset (Fin 16) := Finset.univ.filter fun t => t.val < k

theorem from_zero : from' 0 = Finset.univ := by decide
theorem upto_zero : upto 0 = ∅ := by decide
theorem from_end : from' 16 = ∅ := by decide
theorem upto_end : upto 16 = Finset.univ := by decide
theorem from_succ (t : Fin 16) : from' t.val = insert t (from' (t.val + 1)) := by revert t; decide
theorem upto_succ (t : Fin 16) : upto (t.val + 1) = insert t (upto t.val) := by revert t; decide
theorem notMem_from (t : Fin 16) : t ∉ from' (t.val + 1) := by revert t; decide
theorem notMem_upto (t : Fin 16) : t ∉ upto t.val := by revert t; decide

theorem sum_from {A : Type} [AddCommMonoid A] (f : Fin 16 → A) (t : Fin 16) :
    ∑ i ∈ from' t.val, f i = ∑ i ∈ from' (t.val + 1), f i + f t := by
  rw [from_succ, Finset.sum_insert (notMem_from t), add_comm]
theorem bigSep_from (Φ : Fin 16 → sProp 𝕄) (t : Fin 16) :
    bigSep (from' t.val) Φ = iprop(Φ t ∗ bigSep (from' (t.val + 1)) Φ) := by
  rw [from_succ, bigSep_insert (notMem_from t)]; rfl
theorem bigSep_upto (Φ : Fin 16 → sProp 𝕄) (t : Fin 16) :
    bigSep (upto (t.val + 1)) Φ = iprop(Φ t ∗ bigSep (upto t.val) Φ) := by
  rw [upto_succ, bigSep_insert (notMem_upto t)]; rfl

/-- The receive credits that device `c` still owes from step `k` on; -/
def oR (c : Dev nD) (k : ℕ) : CellTallies nD τ sig Unit := ∑ t ∈ from' k, tallyAt (rCell (up c t) c) () NB
/-- the barrier units that it still owes. -/
def oB (c : Dev nD) (k : ℕ) : CellTallies nD τ sig Unit := ∑ t ∈ from' k, tallyAt (barCell (up c t)) () 1
/-- What device `c` owes at launch. -/
def O₀ (c : Dev nD) : CellTallies nD τ sig Unit := oR c 0 + oB c 0

theorem oR_step (c : Dev nD) (t : Fin 16) : oR c t.val = oR c (t.val + 1) + tallyAt (rCell (up c t) c) () NB := sum_from _ t
theorem oB_step (c : Dev nD) (t : Fin 16) : oB c t.val = oB c (t.val + 1) + tallyAt (barCell (up c t)) () 1 := sum_from _ t
theorem oR_end (c : Dev nD) : oR c 16 = 0 := by unfold oR; rw [from_end, Finset.sum_empty]
theorem oB_end (c : Dev nD) : oB c 16 = 0 := by unfold oB; rw [from_end, Finset.sum_empty]

theorem sum_tally_pos {I : Type} (S : Finset I) (cell : I → GSem nD τ sig) (n : ℕ) {g : GSem nD τ sig} {u : Unit}
    (h : 0 < (∑ i ∈ S, tallyAt (cell i) () n : CellTallies nD τ sig Unit) g u) : ∃ i ∈ S, g = cell i := by
  rw [Finset.sum_apply, Finsupp.finset_sum_apply] at h
  obtain ⟨i, hi, hp⟩ := Finset.exists_ne_zero_of_sum_ne_zero (Nat.pos_iff_ne_zero.mp h)
  refine ⟨i, hi, ?_⟩
  by_contra hne
  rw [tallyAt_apply, if_neg (fun h' => hne h'.1)] at hp
  exact hp rfl

theorem oR_pos {c : Dev nD} {k : ℕ} {g : GSem nD τ sig} {u : Unit} (h : 0 < oR c k g u) : ∃ t, g = rCell (up c t) c := by
  obtain ⟨t, -, ht⟩ := sum_tally_pos _ _ _ h; exact ⟨t, ht⟩
theorem oRB_pos {c : Dev nD} {k l : ℕ} {g : GSem nD τ sig} {u : Unit} (h : 0 < (oR c k + oB c l) g u) :
    (∃ t, g = rCell (up c t) c) ∨ ∃ t, g = barCell (up c t) := by
  rw [Pi.add_apply, Finsupp.add_apply] at h
  by_cases h1 : 0 < oR c k g u
  · exact .inl (oR_pos h1)
  · obtain ⟨t, -, ht⟩ := sum_tally_pos (from' l) (fun t => barCell (up c t)) 1 (g := g) (u := u) (by
      have : 0 < oB c l g u := by omega
      exact this)
    exact .inr ⟨t, ht⟩

def L (g : GSem nD τ sig) : Finset Unit := if g.1.2 = .tc then {()} else ∅
/-- Barrier cells at 1, receive cells at 2, every other cell at 0. -/
def lv (g : GSem nD τ sig) (_ : Unit) : ℕ := match g.2 with | .reg _ => 1 | .dma q => if 22 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (q : Fin 16) (u : Unit) : lv (rCell c q) u = 2 := if_pos (by rw [rSem_val]; omega)
theorem lv_low (c : Dev nD) (q : DmaSem sig) (h : q.val < 22) (u : Unit) : lv ((c : Thread nD τ), .dma q) u = 0 := if_neg (by omega)

/-- A low DMA semaphore may be waited on whatever of its dues a device still owes. -/
theorem mayWait_low (c : Dev nD) (q : DmaSem sig) (hq : q.val < 22) (k l : ℕ) :
    (levAts L lv : sProp 𝕄) ⊢ MayWait (c : Thread nD τ) (.dma q) () (oR c k + oB c l) :=
  MayOwe.of_cut (L := L) (lev := lv) 0 (fun p hp => by rw [Finset.mem_singleton.mp hp, L_tc]; exact Finset.mem_singleton_self _)
    (fun g u hg => by rcases oRB_pos hg with ⟨t, rfl⟩ | ⟨t, rfl⟩ <;> exact Finset.mem_singleton_self _)
    (fun p hp => by rw [Finset.mem_singleton.mp hp, lv_low c q hq])
    (fun g u hg => by
      rcases oRB_pos hg with ⟨t, rfl⟩ | ⟨t, rfl⟩
      · rw [lv_recv]; decide
      · rw [lv_bar]; decide)
/-- The barrier may be waited on while receive credits are owed. -/
theorem mayWait_bar (c : Dev nD) (k : ℕ) : (levAts L lv : sProp 𝕄) ⊢ MayWait (c : Thread nD τ) (.reg barS) () (oR c k) :=
  MayOwe.of_cut (L := L) (lev := lv) 1 (fun p hp => by rw [Finset.mem_singleton.mp hp, L_tc]; exact Finset.mem_singleton_self _)
    (fun g u hg => by obtain ⟨t, rfl⟩ := oR_pos hg; exact Finset.mem_singleton_self _)
    (fun p hp => by rw [Finset.mem_singleton.mp hp, lv_bar])
    (fun g u hg => by obtain ⟨t, rfl⟩ := oR_pos hg; rw [lv_recv]; decide)

/-! ## The buffers in pieces -/

theorem set_w (s : Fin 2) : (wSlot s).view.set = (wRect s).set := (View.set_reshape _ _).trans (View.set_slice_whole _ _)
theorem set_c (t : Fin 16) : (cSlot t).view.set = (cRect t).set := (View.set_reshape _ _).trans (View.set_slice_whole _ _)
theorem set_r (q : Fin 16) : (rRows q).view.set = (rRect q).set := View.set_slice_whole _ _

theorem w_disj (b b' : Fin 2) (h : b ≠ b') : Disjoint (wRect b).set (wRect b').set :=
  lead_disjoint (s := S2x4096x512) (0 : Fin 3) 1 (fun b : Fin 2 => ![b.val, 0, 0]) S1x4096x512.size w_inb (by intro b; rw [one_mul]; rfl) rfl b b' h
theorem w_cover : Finset.univ.biUnion (fun b => (wRect b).set) = Finset.univ :=
  lead_cover (s := S2x4096x512) (0 : Fin 3) 1 (fun b : Fin 2 => ![b.val, 0, 0]) S1x4096x512.size w_inb (by intro b; rw [one_mul]; rfl)
    (by decide) rfl (by decide) rfl
theorem c_disj (b b' : Fin 16) (h : b ≠ b') : Disjoint (cRect b).set (cRect b').set :=
  lead_disjoint (s := S16x256x512) (0 : Fin 3) 1 (fun b : Fin 16 => ![b.val, 0, 0]) S1x256x512.size c_inb (by intro b; rw [one_mul]; rfl) rfl b b' h
theorem c_cover : Finset.univ.biUnion (fun b => (cRect b).set) = Finset.univ :=
  lead_cover (s := S16x256x512) (0 : Fin 3) 1 (fun b : Fin 16 => ![b.val, 0, 0]) S1x256x512.size c_inb (by intro b; rw [one_mul]; rfl)
    (by decide) rfl (by decide) rfl
theorem r_disj (b b' : Fin 16) (h : b ≠ b') : Disjoint (rRect b).set (rRect b').set :=
  lead_disjoint (s := S4096x512) (0 : Fin 2) 256 (fun b : Fin 16 => ![256 * b.val, 0]) S256x512.size r_inb (by intro b; rfl) rfl b b' h
theorem r_cover : Finset.univ.biUnion (fun b => (rRect b).set) = Finset.univ :=
  lead_cover (s := S4096x512) (0 : Fin 2) 256 (fun b : Fin 16 => ![256 * b.val, 0]) S256x512.size r_inb (by intro b; rfl)
    (by decide) rfl (by decide) rfl

/-- Slot `s` of the weights' buffer, at any contents. -/
def wAny (c : Dev nD) (s : Fin 2) : sProp 𝕄 := iprop(∃ f, (wSlot s).view.loc (c : Thread nD τ) ↦[(wSlot s).view.set]{fullShare} f)

/-- A whole buffer at any contents. -/
abbrev wholeAny (c : Dev nD) (b : Ref sig .tc) : sProp 𝕄 :=
  iprop(∃ f : Buf (Elt F) ((c : Thread nD τ).loc b), ((c : Thread nD τ).loc b) ↦{fullShare} f)

theorem blocks_any {I : Type} [Fintype I] [DecidableEq I] (ℓ : Loc nD τ sig) (S : I → Finset (Idx ℓ)) (hd : ∀ b b', b ≠ b' → Disjoint (S b) (S b'))
    (hc : Finset.univ.biUnion S = Finset.univ) :
    (iprop(∃ f : Buf (Elt F) ℓ, ℓ ↦{fullShare} f) : sProp 𝕄) ⊢ bigSep Finset.univ fun b => iprop(∃ f : Buf (Elt F) ℓ, ℓ ↦[S b]{fullShare} f) := by
  have h (f : Buf (Elt F) ℓ) : (ℓ ↦{fullShare} f : sProp 𝕄) ⊢ bigSep Finset.univ fun b => iprop(∃ f : Buf (Elt F) ℓ, ℓ ↦[S b]{fullShare} f) :=
    (Entails.of_eq (pointsTo_blocks S hd hc f)).trans (bigSep_mono fun b _ =>
      (show (ℓ ↦[S b]{fullShare} f : sProp 𝕄) ⊢ iprop(∃ f : Buf (Elt F) ℓ, ℓ ↦[S b]{fullShare} f) from by iintro H; iexists f; iexact H))
  iintro ⟨%f, H⟩
  iapply (h f); iexact H

theorem blocks_join {I : Type} [Fintype I] [DecidableEq I] (ℓ : Loc nD τ sig) (S : I → Finset (Idx ℓ)) (hd : ∀ b b', b ≠ b' → Disjoint (S b) (S b'))
    (hc : Finset.univ.biUnion S = Finset.univ) (b₀ : I) :
    (bigSep Finset.univ fun b => iprop(∃ f : Buf (Elt F) ℓ, ℓ ↦[S b]{fullShare} f) : sProp 𝕄) ⊢ iprop(∃ f : Buf (Elt F) ℓ, ℓ ↦{fullShare} f) := by
  by_cases hne : Nonempty (Buf (Elt F) ℓ)
  · exact pointsTo_blocks_join_exists S hd hc hne.some
  · have h : (iprop(∃ f : Buf (Elt F) ℓ, ℓ ↦[S b₀]{fullShare} f) : sProp 𝕄) ⊢ iprop(∃ f : Buf (Elt F) ℓ, ℓ ↦{fullShare} f) := by
      iintro ⟨%f, -⟩; exact absurd ⟨f⟩ hne
    exact (bigSep_elim (Finset.mem_univ b₀)).trans h

theorem w_disjV (b b' : Fin 2) (h : b ≠ b') : Disjoint (wSlot b).view.set (wSlot b').view.set := by
  rw [set_w, set_w]; exact w_disj b b' h
theorem w_coverV : Finset.biUnion (α := Fin 2) (β := S2x4096x512.Idx) Finset.univ (fun b => (wSlot b).view.set) = Finset.univ := by
  rw [← w_cover]; exact Finset.biUnion_congr rfl fun b _ => set_w b
theorem w_split (c : Dev nD) : (wholeAny c cc0_scratch0 : sProp 𝕄) ⊢ bigSep Finset.univ fun b => wAny c b :=
  blocks_any ((c : Thread nD τ).loc cc0_scratch0) (fun b : Fin 2 => (wSlot b).view.set) w_disjV w_coverV
theorem w_join (c : Dev nD) : (bigSep Finset.univ fun b => wAny c b : sProp 𝕄) ⊢ wholeAny c cc0_scratch0 :=
  blocks_join ((c : Thread nD τ).loc cc0_scratch0) (fun b : Fin 2 => (wSlot b).view.set) w_disjV w_coverV 0
theorem c_disjV (b b' : Fin 16) (h : b ≠ b') : Disjoint (cSlot b).view.set (cSlot b').view.set := by
  rw [set_c, set_c]; exact c_disj b b' h
theorem c_coverV : Finset.biUnion (α := Fin 16) (β := S16x256x512.Idx) Finset.univ (fun b => (cSlot b).view.set) = Finset.univ := by
  rw [← c_cover]; exact Finset.biUnion_congr rfl fun b _ => set_c b
theorem c_split (c : Dev nD) : (wholeAny c cc0_scratch2 : sProp 𝕄) ⊢ bigSep Finset.univ fun b => sPay c b :=
  blocks_any ((c : Thread nD τ).loc cc0_scratch2) (fun b : Fin 16 => (cSlot b).view.set) c_disjV c_coverV
theorem c_join (c : Dev nD) : (bigSep Finset.univ fun b => sPay c b : sProp 𝕄) ⊢ wholeAny c cc0_scratch2 :=
  blocks_join ((c : Thread nD τ).loc cc0_scratch2) (fun b : Fin 16 => (cSlot b).view.set) c_disjV c_coverV 0
theorem r_disjV (b b' : Fin 16) (h : b ≠ b') : Disjoint (rRows b).view.set (rRows b').view.set := by
  rw [set_r, set_r]; exact r_disj b b' h
theorem r_coverV : Finset.biUnion (α := Fin 16) (β := S4096x512.Idx) Finset.univ (fun b => (rRows b).view.set) = Finset.univ := by
  rw [← r_cover]; exact Finset.biUnion_congr rfl fun b _ => set_r b
theorem r_split (c : Dev nD) : (wholeAny c cc0_scratch3 : sProp 𝕄) ⊢ bigSep Finset.univ fun b => rAny c b :=
  blocks_any ((c : Thread nD τ).loc cc0_scratch3) (fun b : Fin 16 => (rRows b).view.set) r_disjV r_coverV
theorem r_join (c : Dev nD) : (bigSep Finset.univ fun b => rAny c b : sProp 𝕄) ⊢ wholeAny c cc0_scratch3 :=
  blocks_join ((c : Thread nD τ).loc cc0_scratch3) (fun b : Fin 16 => (rRows b).view.set) r_disjV r_coverV 0
theorem rPay_any (c : Dev nD) (q : Fin 16) : rPay m ρ c q ⊢ rAny c q := by
  unfold rPay rAny owns
  iintro ⟨%f, -, H⟩; iexists f; iexact H

/-! ## The records -/

def records (K : Dev nD × Kd → ℕ) : sProp 𝕄 :=
  iprop((bigSep Finset.univ fun ck : Dev nD × Kd => cellInv ER (Rd m ρ) (K ck) (kcell ck))
    ∗ bigSep Finset.univ fun ck : Dev nD × Kd => reached ER (kcell ck) 0)

instance records_persistent (K : Dev nD × Kd → ℕ) : BI.Persistent (records m ρ K) := by unfold records; infer_instance

theorem rec_inv (K : Dev nD × Kd → ℕ) (ck : Dev nD × Kd) : records m ρ K ⊢ cellInv ER (Rd m ρ) (K ck) (kcell ck) :=
  sep_elim_left.trans (bigSep_elim (Finset.mem_univ ck))
theorem rec_reached (K : Dev nD × Kd → ℕ) (ck : Dev nD × Kd) : records m ρ K ⊢ reached ER (kcell ck) 0 :=
  sep_elim_right.trans (bigSep_elim (Finset.mem_univ ck))

end Cert.ScatterProof

end
-- ==== Proof.Steps.lean ====
/- The stretches of the body, each as one rule over the step number.

Every stretch has an invariant in the number of steps done: what the steps still to come hold, and what the steps done
have left. `wp_seqN` runs a stretch from its one step.
-/
module

public import proofs.«01_k».proof.Proof.Sched

@[expose] public section

set_option maxRecDepth 16384

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ) (c : Dev nD)

abbrev 𝒱₀ : Variants := Variants.none

/-- Running a program on device `c`. -/
abbrev wpC {A : Type} (p : Pg (F := F) A) (Q : A → sProp 𝕄) : sProp 𝕄 :=
  wp frame (wpE (defs₀ (F := F)) 𝒱₀ (c : Thread nD τ) none) Set.univ p Q

theorem wpC_ret {A : Type} (a : A) (Q : A → sProp 𝕄) : Q a ⊢ wpC c (pure a) Q := by
  unfold wpC
  iintro H
  rw [wp_pure]; imodintro; iexact H

/-- A call, then the rest. -/
theorem wpC_seq {A B : Type} {p : Pg (F := F) A} {k : A → Pg (F := F) B} {Q : A → sProp 𝕄} {R : B → sProp 𝕄} :
    wpC c p Q ⊢ iprop((∀ a, Q a -∗ wpC c (k a) R) -∗ wpC c (p >>= k) R) := by
  unfold wpC
  rw [wp_bind]
  exact wp_wand _ _ _
theorem wpC_last {A : Type} {p : Pg (F := F) A} {Q R : A → sProp 𝕄} :
    wpC c p Q ⊢ iprop((∀ a, Q a -∗ R a) -∗ wpC c p R) := wp_wand _ _ _

/-- A stretch, from its one step. -/
theorem wp_seqN {n : ℕ} (f : Fin n → Pg (F := F) PUnit) (I : ℕ → sProp 𝕄)
    (hstep : ∀ t : Fin n, I t.val ⊢ wpC c (f t) (fun _ => I (t.val + 1))) :
    ∀ (k : ℕ) (h : k ≤ n), I (n - k) ⊢ wpC c (seqN f k h) (fun _ => I n)
  | 0, _ => by
    exact wpC_ret c PUnit.unit (fun _ => I n)
  | k + 1, h => by
    show I (n - (k + 1)) ⊢ wpC c (f ⟨n - (k + 1), by omega⟩ >>= fun _ => seqN f k (by omega)) _
    unfold wpC
    rw [wp_bind]
    refine (hstep ⟨n - (k + 1), by omega⟩).trans (wp_mono _ _ _ fun _ => ?_)
    have e : n - (k + 1) + 1 = n - k := by omega
    have := wp_seqN f I hstep k (by omega)
    rw [← e] at this
    exact this

/-- What device `c` owes, whatever it has waited for. -/
def owesX (O : CellTallies nD τ sig Unit) : sProp 𝕄 := iprop(∃ W, owes (c : Thread nD τ) O W)

/-! ## The signals -/

def IA (k : ℕ) : sProp 𝕄 :=
  iprop(records m ρ K ∗ owesX c (oR c 0 + oB c k)
    ∗ bigSep (from' k) fun t => iprop(dutyTok ER (barCell (up c t)) 0 c ∗ rAny c (up c t)))

theorem signal_step (t : Fin 16) :
    IA m ρ K c t.val ⊢ wpC c (semSignalWord (up c t) barS 1#32) (fun _ => IA m ρ K c (t.val + 1)) := by
  unfold IA owesX wpC
  rw [bigSep_from]
  simp only [semSignalWord, Prog.lift]
  iintro ⟨#HR, ⟨%W, HO⟩, ⟨Ht, Hr⟩, Hrest⟩
  iapply (Rounds.wp_signal 𝒱₀ ER (Rd m ρ) (c : Thread nD τ) none (dst := (up c t : Thread nD τ)) (κ := K (up c t, kB))
      (d := c) (by rw [duties_bar]; exact Finset.mem_univ _) ((amount_bar m ρ (up c t) c).trans (by decide)) ()
      (O₀ := oR c 0 + oB c t.val) (oR c 0 + oB c (t.val + 1)) (by rw [oB_step, add_assoc]; rfl)) $$ [HO Ht Hr]
  · isplitr; · iapply (rec_inv m ρ K (up c t, kB)); iexact HR
    isplitl [HO]; · iexact HO
    isplitl [Ht]; · iexact Ht
    isplitl [Hr]; · rw [payload_bar]; iexact Hr
    iapply (rec_reached m ρ K (up c t, kB)); iexact HR
  iintro HO
  rw [wp_ret]; imodintro
  isplitr; · iexact HR
  isplitl [HO]; · iexists W; iexact HO
  iexact Hrest

/-! ## The barrier -/

theorem barrier_wait :
    iprop(records m ρ K ∗ levAts L lv ∗ cred (tallyAt (barCell c) () 16) ∗ atPos ER (barCell c) 0 ∅ 0 ∗ owesX c (oR c 0))
      ⊢ wpC c (semWaitWord barS 16#32) (fun _ => iprop(owesX c (oR c 0) ∗ atPos ER (barCell c) (0 + 1) ∅ 0 ∗ bigSep Finset.univ fun d : Fin 16 => rAny (F := F) d c)) := by
  unfold owesX wpC
  simp only [semWaitWord, Prog.lift]
  iintro ⟨#HR, #Hlev, Hc, Hat, ⟨%W, HO⟩⟩
  iapply (Rounds.wp_wait_rest_token 𝒱₀ ER (Rd m ρ) (c : Thread nD τ) none (κ := K (c, kB))
      (wpE_semWait_eq 𝒱₀ (c : Thread nD τ) none Set.univ) (Set.mem_univ _) () (O := oR c 0) (W := W) (R := 0) (m := 0) (T := ∅)
      (by rw [expect_bar]; decide)) $$ [Hc HO Hat]
  · isplitr; · iapply (rec_inv m ρ K (c, kB)); iexact HR
    isplitl [Hc]; · iexact Hc
    isplitl [HO]; · iexact HO
    isplitr; · iapply (mayWait_bar c 0); iexact Hlev
    iexact Hat
  iintro ⟨HO, Hat, -, Hpay⟩
  ihave Hp := (Entails.of_eq (rest_bar m ρ c)) $$ Hpay
  rw [wp_ret]; imodintro
  isplitl [HO]; · iexists _; iexact HO
  isplitl [Hat]; · iexact Hat
  iexact Hp

/-! ## The weights' copies -/

/-- The two copies in flight read the weights at one half each. -/
def half (s : Fin 2) : PosShare TreeShare := match s with | 0 => fullShare.left | 1 => fullShare.right

/-- The weights at slot `s`'s half. -/
def gFree (s : Fin 2) : sProp 𝕄 := ((c : Thread nD τ).loc main_arg1) ↦{half s} wmem m c
/-- Slot `s` idle. -/
def idle (s : Fin 2) : sProp 𝕄 := iprop(gFree m c s ∗ wAny c s ∗ semVal (wCell c s) 0)
/-- What a finished copy of column block `p` into slot `s` leaves. -/
def copied (s : Fin 2) (p : Dev nD) (fd : (wSlot s).view.ty.Contents (Elt F)) : sProp 𝕄 :=
  iprop(((wSlot s).view.loc (c : Thread nD τ) ↦[(wSlot s).view.set]{fullShare} ((wSlot s).view.write (Elt F) fd (wcols m c p) Finset.univ))
    ∗ ((gCols p).view.loc (c : Thread nD τ) ↦[(gCols p).view.set]{half s} wmem m c))
/-- A copy of column block `p` into slot `s` in flight. -/
def fly (s : Fin 2) (p : Dev nD) : sProp 𝕄 :=
  iprop((∃ fd, Transfers.Flight countersEmb (c : Thread nD τ) (.dma (wSem s)) () (wSlot s).view.dmaCredit (copied m c s p fd))
    ∗ (((c : Thread nD τ).loc main_arg1) ↦[Finset.univ \ (gCols p).view.set]{half s} wmem m c))

theorem start_copy (s : Fin 2) (p : Dev nD) :
    idle m c s ⊢ wpC c (startC p s) (fun _ => fly m c s p) := by
  unfold idle gFree wAny fly wpC startC startAt
  simp only [Prog.lift]
  iintro ⟨Hg, ⟨%fd, Hw⟩, Hz⟩
  ihave Hg := (pointsTo_split_subset (I := (gCols p).view.set) (Finset.subset_univ _)).1 $$ Hg
  icases Hg with ⟨Hg, Hrest⟩
  iapply (Transfers.wp_dmaLocal countersEmb 𝒱₀ (c : Thread nD τ) none () (wSlot s).view.dmaCredit rfl (View.dmaCredit_pos _ (by decide)) subset_rfl
    (src := gCols p) (dst := wSlot s) (sm := .dma (wSem s)) (q := half s) (fs := wmem m c) (fd := fd)) $$ [Hg Hw Hz]
  · isplitl [Hg]; · iexact Hg
    isplitl [Hw]; · iexact Hw
    iexact Hz
  iintro HF
  rw [wp_ret]; imodintro
  isplitl [HF]
  · iexists fd; iexact HF
  iexact Hrest

theorem read_copied (s : Fin 2) (p : Dev nD) (fd : (wSlot s).view.ty.Contents (Elt F)) :
    copied m c s p fd ⊢ iprop(owns (c : Thread nD τ) (wSlot s) fullShare (wcols m c p) ∗ ((gCols p).view.loc (c : Thread nD τ) ↦[(gCols p).view.set]{half s} wmem m c)) := by
  unfold copied owns
  iintro ⟨Hw, Hg⟩
  isplitl [Hw]
  · iexists ((wSlot s).view.write (Elt F) fd (wcols m c p) Finset.univ)
    isplitr
    · ipureintro; exact View.read_write_univ _ _
    iexact Hw
  iexact Hg

theorem await_copy (s : Fin 2) (p : Dev nD) (k : ℕ) :
    iprop(levAts L lv ∗ owesX c (oR c k) ∗ fly m c s p)
      ⊢ wpC c (awaitAt ![0, 512 * p.val] (g_inb p) (g_words p) (wSem s) s)
          (fun _ => iprop(owesX c (oR c k) ∗ owns (c : Thread nD τ) (wSlot s) fullShare (wcols m c p) ∗ gFree m c s ∗ semVal (wCell c s) 0)) := by
  unfold fly wpC awaitAt owesX gFree
  simp only [Prog.lift]
  iintro ⟨#Hlev, ⟨%W, HO⟩, ⟨%fd, HF⟩, Hrest⟩
  iapply (Transfers.wp_waitLocalO countersEmb 𝒱₀ (c : Thread nD τ) none () (N := (wSlot s).view.dmaCredit) rfl
    (D := copied m c s p fd) (O := oR c k) (W := W)) $$ [HF HO]
  · isplitl [HF]; · iexact HF
    isplitl [HO]; · iexact HO
    have h := mayWait_low (F := F) c (wSem s) (by rw [wSem_val]; omega) k 16
    rw [oB_end, add_zero] at h
    iapply h; iexact Hlev
  iintro ⟨HD, Hz, HO⟩
  ihave HD := (read_copied m c s p fd) $$ HD
  icases HD with ⟨Hw, Hg⟩
  rw [wp_ret]; imodintro
  isplitl [HO]; · iexists _; iexact HO
  isplitl [Hw]; · iexact Hw
  isplitr [Hz]
  · iapply (pointsTo_split_subset (I := (gCols p).view.set) (Finset.subset_univ _)).2
    isplitl [Hg]; · iexact Hg
    iexact Hrest
  iexact Hz

/-! ## A compute-and-send step -/

/-- The copy that serves step `j`, or its idle slot when there is no such step. -/
def slotAt (j : ℕ) : sProp 𝕄 := if h : j < 16 then fly m c (par j) (up c ⟨j, h⟩) else idle m c (par j)

theorem par_add_two (j : ℕ) : par (j + 2) = par j := Fin.ext (Nat.add_mod_right j 2)

/-- The next copy into the slot just read. -/
theorem next_copy (j : ℕ) :
    idle m c (par j) ⊢ wpC c (if h : j + 2 < 16 then startC (F := F) (up c ⟨j + 2, h⟩) (par (j + 2)) else pure ⟨⟩) (fun _ => slotAt m c (j + 2)) := by
  unfold slotAt
  split
  · rw [par_add_two]; exact start_copy m c _ _
  · rw [par_add_two]; exact wpC_ret c PUnit.unit (fun _ => idle m c (par j))

/-- The activations' rows, staged. -/
def xPts : sProp 𝕄 := ((c : Thread nD τ).loc cc0_stg0_0) ↦{fullShare} xstg m ρ c

abbrev rX : Rect S256x4096 := Rect.unit (s := S256x4096) ![0, 0] S256x4096.size inb_S256x4096_S256x4096_0_0
theorem hz2 : (![0, 0] : Fin 2 → Nat) = fun _ => 0 := funext fun a => by fin_cases a <;> rfl
theorem read_x (f : (cc0_stg0_0 : Ref sig .tc).ty.Contents (Elt F)) : xM.view.readAt (Elt F) rX.toLoadRect f = f :=
  Memref.readAt_unit_zero (Elt F) cc0_stg0_0 hz2 _ f
theorem read_slot (s : Fin 2) (f : (cc0_scratch0 : Ref sig .tc).ty.Contents (Elt F)) (X : Vec F S4096x512 .i8)
    (h : (wSlot s).view.read (Elt F) f = X) : wM.view.readAt (Elt F) (wRect s).toLoadRect f = slotted X := by
  subst h
  funext i
  show _ = ((wM.view.slice (wRect s)).read (Elt F) f) (Shape.reshapeEquiv nW ((Shape.reshapeEquiv nW).symm i))
  rw [Equiv.apply_symm_apply]; rfl
theorem read_sent (t : Fin 16) (f : (cc0_scratch2 : Ref sig .tc).ty.Contents (Elt F)) (X : Vec F S1x256x512 .bf16) :
    (cSlot t).view.read (Elt F) ((cM.access (cRect t)).write (Elt F) f X Finset.univ) = fun y => X (Shape.reshapeEquiv nC y) := by
  funext y
  exact congrFun (View.read_write_univ (v := cM.access (cRect t)) (Val := Elt F) f X) (Shape.reshapeEquiv nC y)

/-- What step `t` computes is in slot `t`. -/
def filled (t : Fin 16) (p : Dev nD) : sProp 𝕄 := owns (c : Thread nD τ) (cSlot t) fullShare (blk m ρ c p)

theorem compute_step (t : Fin 16) (next : Pg (F := F) PUnit) (N : sProp 𝕄) (p : Dev nD)
    (hn : idle m c (par t.val) ⊢ wpC c next (fun _ => N)) :
    iprop(xPts m ρ c ∗ owns (c : Thread nD τ) (wSlot (par t.val)) fullShare (wcols m c p) ∗ gFree m c (par t.val) ∗ semVal (wCell c (par t.val)) 0 ∗ sPay c t)
      ⊢ wpC c (compute (scale m ρ c) (par t.val) t next) (fun _ => iprop(xPts m ρ c ∗ N ∗ filled m ρ c t p)) := by
  unfold xPts sPay owns wpC compute filled
  simp only [Prog.lift, Prog.bind_op, Prog.bind_ret]
  iintro ⟨Hx, ⟨%fw, %hfw, Hw⟩, Hg, Hz, ⟨%fc, Hc⟩⟩
  iapply (wp_load 𝒱₀ (c : Thread nD τ) none Set.univ (m := xM) (Finset.subset_univ _)) $$ Hx; iintro Hx
  rw [read_x]
  iapply (wp_load 𝒱₀ (c : Thread nD τ) none Set.univ (m := wM) (S := (wSlot (par t.val)).view.set)
    (by rw [View.set_reshape, View.set_slice]; rfl)) $$ Hw; iintro Hw
  rw [read_slot _ _ _ hfw, wp_bind]
  ihave Hi : iprop(idle m c (par t.val)) $$ [Hw Hg Hz]
  · unfold idle wAny
    isplitl [Hg]; · iexact Hg
    isplitl [Hw]; · iexists fw; iexact Hw
    iexact Hz
  ihave Hn := hn $$ Hi
  unfold wpC
  iapply (wp_wand _ _ _ ) $$ Hn
  iintro %_ HN
  iapply (wp_load 𝒱₀ (c : Thread nD τ) none Set.univ (m := cM) (S := (cSlot t).view.set)
    (by rw [View.set_reshape, View.set_slice]; rfl)) $$ Hc; iintro Hc
  iapply (wp_store 𝒱₀ (c : Thread nD τ) none Set.univ (m := cM) (r := cRect t) (Mk := Finset.univ) (S := (cSlot t).view.set)
    (by rw [View.set_reshape]; rfl)) $$ Hc; iintro Hc
  rw [wp_ret]; imodintro
  isplitl [Hx]; · iexact Hx
  isplitl [HN]; · iexact HN
  unfold owns
  iexists _
  isplitr
  · ipureintro; exact read_sent t fc _
  iexact Hc

/-- The block lands in the peer's rows. -/
theorem land (p : Dev nD) (fd : (rRows c).view.ty.Contents (Elt F)) :
    ((rRows c).view.loc (p : Thread nD τ) ↦[(rRows c).view.set]{fullShare} ((rRows c).view.write (Elt F) fd (blk m ρ c p) Finset.univ)) ⊢ (rPay m ρ p c : sProp 𝕄) := by
  unfold rPay owns
  iintro H
  iexists ((rRows c).view.write (Elt F) fd (blk m ρ c p) Finset.univ)
  isplitr
  · ipureintro; exact View.read_write_univ _ _
  iexact H
theorem spent (t : Fin 16) (fs : (cSlot t).view.ty.Contents (Elt F)) :
    ((cSlot t).view.loc (c : Thread nD τ) ↦[(cSlot t).view.set]{fullShare} fs) ⊢ (sPay c t : sProp 𝕄) := by
  unfold sPay
  iintro H
  iexists _
  iexact H

/-- The send of step `t`, to device `p`. -/
theorem send_step (t : Fin 16) (p : Dev nD) (O : CellTallies nD τ sig Unit) :
    iprop(records m ρ K ∗ filled m ρ c t p ∗ rAny p c ∗ owesX c (O + tallyAt (rCell p c) () NB) ∗ dutyTok ER (sCell c t) 0 0 ∗ dutyTok ER (rCell p c) 0 0)
      ⊢ wpC c (sendAt ![256 * c.val, 0] (r_inb c) (r_words c) (sSem t) (rSem c) p t)
          (fun _ => iprop(cred (tallyAt (sCell c t) () NB) ∗ owesX c O)) := by
  unfold filled rAny owns sendAt owesX
  simp only [Prog.lift]
  iintro ⟨#HR, ⟨%fs, %hfs, Hs⟩, ⟨%fd, Hd⟩, ⟨%W, HO⟩, Hts, Htr⟩
  iapply (Rounds.wp_send_pointsTo 𝒱₀ ER (Rd m ρ) (c : Thread nD τ) none (src := cSlot t) (dst := rRows c) (sS := .dma (sSem t)) (sem := .dma (rSem c)) (c' := (p : Thread nD τ))
    (κ₁ := K (c, kS t)) (κ₂ := K (p, kR c))
    (r₁ := 0) (r₂ := 0) (d₁ := 0) (d₂ := 0) (fs := fs) (fd := fd) (q := fullShare)
    (by rw [duties_send]; exact Finset.mem_singleton_self _) (by rw [duties_recv]; exact Finset.mem_singleton_self _)
    () () NB rfl (amount_send m ρ c t 0) (amount_recv m ρ p c 0) O rfl (W := W)
    ((spent c t fs).trans (Entails.of_eq (payload_send m ρ c t 0).symm)) (by rw [hfs]; exact (land m ρ c p fd).trans (Entails.of_eq (payload_recv m ρ p c 0).symm))) $$ [Hs Hd HO Hts Htr]
  · isplitr; · iapply (rec_inv m ρ K (c, kS t)); iexact HR
    isplitr; · iapply (rec_inv m ρ K (p, kR c)); iexact HR
    isplitl [Hs]; · iexact Hs
    isplitl [Hd]; · iexact Hd
    isplitl [HO]; · iexact HO
    isplitl [Hts]; · iexact Hts
    isplitr; · iapply (rec_reached m ρ K (c, kS t)); iexact HR
    isplitl [Htr]; · iexact Htr
    iapply (rec_reached m ρ K (p, kR c)); iexact HR
  iintro ⟨Hc, HO⟩
  rw [wp_ret]; imodintro
  isplitl [Hc]; · iexact Hc
  iexists W; iexact HO

/-- What step `t` holds until it runs. -/
def stepRes (t : Fin 16) : sProp 𝕄 :=
  iprop(sPay c t ∗ dutyTok ER (sCell c t) 0 0 ∗ dutyTok ER (rCell (up c t) c) 0 0 ∗ rAny (up c t) c)

def IC (k : ℕ) : sProp 𝕄 :=
  iprop(records m ρ K ∗ levAts L lv ∗ xPts m ρ c ∗ owesX c (oR c k) ∗ slotAt m c k ∗ slotAt m c (k + 1)
    ∗ (bigSep (from' k) fun t => stepRes c t) ∗ bigSep (upto k) fun t => cred (tallyAt (sCell c t) () NB))

theorem step_step (t : Fin 16) : IC m ρ K c t.val ⊢ wpC c (stepC (scale m ρ c) c t) (fun _ => IC m ρ K c (t.val + 1)) := by
  have hf : slotAt m c t.val = fly m c (par t.val) (up c t) := by unfold slotAt; rw [dif_pos t.isLt]
  unfold IC stepC
  rw [bigSep_from, bigSep_upto, hf]
  iintro ⟨#HR, #Hlev, Hx, HO, Hf, Hf', ⟨Hres, Hrest⟩, Hdone⟩
  ihave H := (await_copy m c (par t.val) (up c t) t.val) $$ [HO Hf]
  · isplitr; · iexact Hlev
    isplitl [HO]; · iexact HO
    iexact Hf
  iapply (wpC_seq c) $$ H
  iintro %_ ⟨HO, Hw, Hg, Hz⟩
  unfold stepRes
  icases Hres with ⟨Hs, Hts, Htr, Hr⟩
  ihave H := (compute_step m ρ c t _ _ (up c t) (next_copy m c t.val)) $$ [Hx Hw Hg Hz Hs]
  · isplitl [Hx]; · iexact Hx
    isplitl [Hw]; · iexact Hw
    isplitl [Hg]; · iexact Hg
    isplitl [Hz]; · iexact Hz
    iexact Hs
  iapply (wpC_seq c) $$ H
  iintro %_ ⟨Hx, Hn, Hfill⟩
  ihave H := (send_step m ρ K c t (up c t) (oR c (t.val + 1))) $$ [Hfill Hr HO Hts Htr]
  · isplitr; · iexact HR
    isplitl [Hfill]; · iexact Hfill
    isplitl [Hr]; · iexact Hr
    isplitl [HO]; · rw [oR_step]; iexact HO
    isplitl [Hts]; · iexact Hts
    iexact Htr
  iapply (wpC_last c) $$ H
  iintro %_ ⟨Hc, HO⟩
  isplitr; · iexact HR
  isplitr; · iexact Hlev
  isplitl [Hx]; · iexact Hx
  isplitl [HO]; · iexact HO
  isplitl [Hf']; · iexact Hf'
  isplitl [Hn]; · iexact Hn
  isplitl [Hrest]; · iexact Hrest
  isplitl [Hc]; · iexact Hc
  iexact Hdone

/-! ## A drain -/

/-- The rows `q` of the result. -/
abbrev outRows (q : Dev nD) (g : (cc0_stg3_0 : Ref sig .tc).ty.Contents (Elt F)) : Vec F S256x512 .f32 := (oM.access (rRect q)).read (Elt F) g

/-- What drain `t` waits with; -/
def drainRes (t : Fin 16) : sProp 𝕄 := iprop(atPos ER (rCell c (dn c t)) 0 ∅ 0 ∗ cred (tallyAt (rCell c (dn c t)) () NB))
/-- what it leaves. -/
def drained (t : Fin 16) : sProp 𝕄 := iprop(rAny c (dn c t) ∗ semVal (rCell c (dn c t)) 0)

def ID (k : ℕ) : sProp 𝕄 :=
  iprop(records m ρ K ∗ owesX c 0 ∗ (bigSep (from' k) fun t => drainRes c t) ∗ (bigSep (upto k) fun t => drained c t)
    ∗ ∃ g, ⌜∀ t : Fin 16, t.val < k → outRows (dn c t) g = k0_pay29 (blk m ρ (dn c t) c)⌝ ∗ (((c : Thread nD τ).loc cc0_stg3_0) ↦{fullShare} g))

theorem o_disj (q q' : Dev nD) (h : q ≠ q') : Disjoint (oM.view.slice (rRect q)).set ((oM.view.slice (rRect q')).setOn Finset.univ) := by
  have h1 : (oM.view.slice (rRect q)).set = (rRect q).set := View.set_slice_whole _ _
  have h2 : (oM.view.slice (rRect q')).set = (rRect q').set := View.set_slice_whole _ _
  rw [View.setOn_univ, h1, h2]
  exact r_disj q q' h
theorem dn_inj (t t' : Fin 16) (h : dn c t = dn c t') : t = t' := (dnE c).injective h

/-- One more block of rows is written. -/
theorem out_step (t : Fin 16) (g : (cc0_stg3_0 : Ref sig .tc).ty.Contents (Elt F)) (X : Vec F S256x512 .f32)
    (hg : ∀ u : Fin 16, u.val < t.val → outRows (dn c u) g = k0_pay29 (blk m ρ (dn c u) c)) (hX : X = k0_pay29 (blk m ρ (dn c t) c))
    (u : Fin 16) (hu : u.val < t.val + 1) :
    outRows (dn c u) ((oM.access (rRect (dn c t))).write (Elt F) g X Finset.univ) = k0_pay29 (blk m ρ (dn c u) c) := by
  by_cases he : u = t
  · subst he
    exact (View.read_write_univ _ _).trans hX
  · have hlt : u.val < t.val := by
      have : u.val ≠ t.val := fun h => he (Fin.ext h)
      omega
    refine Eq.trans ?_ (hg u hlt)
    exact View.read_slice_write_slice_of_disjoint (Val := Elt F) (v := oM.view) (rRect (dn c u)) (rRect (dn c t)) g X Finset.univ (o_disj (dn c u) (dn c t) (fun h => he (dn_inj c _ _ h)))

theorem drain_step (t : Fin 16) : ID m ρ K c t.val ⊢ wpC c (drainC (dn c t)) (fun _ => ID m ρ K c (t.val + 1)) := by
  unfold ID drainC drainAt wpC owesX
  rw [bigSep_from, bigSep_upto]
  simp only [Prog.lift, Prog.bind_op, Prog.bind_ret]
  unfold drainRes
  iintro ⟨#HR, ⟨%W, HO⟩, ⟨⟨Hat, Hc⟩, Hrest⟩, Hdone, ⟨%g, %hg, Hout⟩⟩
  iapply (Rounds.wp_wait_rest_token 𝒱₀ ER (Rd m ρ) (c : Thread nD τ) none (κ := K (c, kR (dn c t)))
      (wpE_waitDma2_eq 𝒱₀ (c : Thread nD τ) none Set.univ) (Set.mem_univ _) () (O := 0) (W := W) (R := 0) (m := 0) (T := ∅)
      (by rw [Nat.zero_add, expect_recv]; exact credit_r (dn c t))) $$ [Hc HO Hat]
  · isplitr; · iapply (rec_inv m ρ K (c, kR (dn c t))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c (dn c t))) $$ Hpay
  imod (Rounds.cell_close ER (Rd m ρ) (Set.mem_univ (K (c, kR (dn c t)))) (fun h => h) (R := 0 + 1) (duties_later m ρ (rCell c (dn c t)))) $$ [Hat] with Hz
  · isplitr; · iapply (rec_inv m ρ K (c, kR (dn c t))); iexact HR
    iexact Hat
  unfold rPay owns
  icases Hp with ⟨%f, %hf, Hp⟩
  iapply (wp_load 𝒱₀ (c : Thread nD τ) none Set.univ (m := rM) (S := (rRows (dn c t)).view.set) (by rw [View.set_slice]; rfl)) $$ Hp; iintro Hp
  iapply (wp_load 𝒱₀ (c : Thread nD τ) none Set.univ (m := oM) (Finset.subset_univ _)) $$ Hout; iintro Hout
  iapply (wp_store 𝒱₀ (c : Thread nD τ) none Set.univ (m := oM) (r := rRect (dn c t)) (Mk := Finset.univ) (Finset.subset_univ _)) $$ Hout; iintro Hout
  rw [wp_ret]; imodintro
  isplitr; · iexact HR
  isplitl [HO]; · iexists _; iexact HO
  isplitl [Hrest]; · iexact Hrest
  isplitl [Hp Hz Hdone]
  · isplitl [Hp Hz]
    · unfold drained rAny
      isplitl [Hp]; · iexists f; iexact Hp
      iexact Hz
    iexact Hdone
  iexists _
  isplitr
  · ipureintro
    exact out_step m ρ c t g _ hg (by rw [← hf])
  iexact Hout

/-! ## The waits for the sends -/

def sentRes (t : Fin 16) : sProp 𝕄 := iprop(atPos ER (sCell c t) 0 ∅ 0 ∗ cred (tallyAt (sCell c t) () NB))
def sent (t : Fin 16) : sProp 𝕄 := iprop(sPay c t ∗ semVal (sCell c t) 0)

def IE (k : ℕ) : sProp 𝕄 :=
  iprop(records m ρ K ∗ owesX c 0 ∗ (bigSep (from' k) fun t => sentRes c t) ∗ bigSep (upto k) fun t => sent (F := F) c t)

theorem sent_step (t : Fin 16) : IE m ρ K c t.val ⊢ wpC c (sentAt (sSem t) t) (fun _ => IE m ρ K c (t.val + 1)) := by
  unfold IE sentAt wpC owesX
  rw [bigSep_from, bigSep_upto]
  simp only [Prog.lift]
  unfold sentRes
  iintro ⟨#HR, ⟨%W, HO⟩, ⟨⟨Hat, Hc⟩, Hrest⟩, Hdone⟩
  iapply (Rounds.wp_wait_rest_token 𝒱₀ ER (Rd m ρ) (c : Thread nD τ) none (κ := K (c, kS t))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (rec_inv m ρ K (c, kS t)); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c t)) $$ Hpay
  imod (Rounds.cell_close ER (Rd m ρ) (Set.mem_univ (K (c, kS t))) (fun h => h) (R := 0 + 1) (duties_later m ρ (sCell c t))) $$ [Hat] with Hz
  · isplitr; · iapply (rec_inv m ρ K (c, kS t)); iexact HR
    iexact Hat
  rw [wp_ret]; imodintro
  isplitr; · iexact HR
  isplitl [HO]; · iexists _; iexact HO
  isplitl [Hrest]; · iexact Hrest
  isplitl [Hp Hz]
  · unfold sent
    isplitl [Hp]; · iexact Hp
    iexact Hz
  iexact Hdone

end Cert.ScatterProof

end
-- ==== Proof.Body.lean ====
/- One device's body, from what it holds at its start to what it holds at its end: the sixteen signals, the wait for
   the sixteen others, sixteen blocks computed and sent, sixteen blocks taken over, sixteen sends waited for.
-/
module

public import proofs.«01_k».proof.Proof.Steps

@[expose] public section

set_option maxRecDepth 16384

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ) (c : Dev nD)

/-! ## The result -/

/-- The row block that a row of the result lies in, and its place there. -/
def rowBlk (i : S4096x512.Idx) : Dev nD := ⟨(i 0).val / 256, by have : (i 0).val < 4096 := (i 0).isLt; show _ < 16; omega⟩
def rowIn (i : S4096x512.Idx) : S256x512.Idx :=
  fun a => ⟨(![(i 0).val % 256, (i 1).val] : Fin 2 → ℕ) a, by
    have h : (i 1).val < 512 := (i 1).isLt
    fin_cases a
    · exact Nat.mod_lt _ (by decide)
    · exact h⟩

/-- What device `c` ends with: row block `q` is what `q` computed for it. -/
def outAt : (cc0_stg3_0 : Ref sig .tc).ty.Contents (Elt F) := fun i => k0_pay29 (blk m ρ (rowBlk i) c) (rowIn i)

theorem row_emb (i : S4096x512.Idx) : (rRect (rowBlk i)).emb (rowIn i) = i := by
  funext a
  apply Fin.ext
  fin_cases a
  · show 256 * ((i 0).val / 256) + 1 * ((i 0).val % 256) = (i 0).val
    omega
  · show 0 + 1 * (i 1).val = (i 1).val
    omega

theorem out_ext (g : (cc0_stg3_0 : Ref sig .tc).ty.Contents (Elt F))
    (h : ∀ t : Fin 16, t.val < 16 → outRows (dn c t) g = k0_pay29 (blk m ρ (dn c t) c)) : g = outAt m ρ c := by
  funext i
  obtain ⟨t, ht⟩ := (dnE c).surjective (rowBlk i)
  have ht : dn c t = rowBlk i := ht
  have h' := congrFun (h t t.isLt) (rowIn i)
  rw [ht] at h'
  refine Eq.trans ?_ h'
  show g i = g ((rRect (rowBlk i)).emb (rowIn i))
  rw [row_emb]

/-! ## The whole body -/

abbrev s1Pts : sProp 𝕄 := ((c : Thread nD τ).loc cc0_stg1_0) ↦{fullShare} s1stg m ρ c
abbrev s2Pts : sProp 𝕄 := ((c : Thread nD τ).loc cc0_stg2_0) ↦{fullShare} s2stg m ρ c
abbrev gPts : sProp 𝕄 := ((c : Thread nD τ).loc main_arg1) ↦{fullShare} wmem m c

/-- What device `c` alone starts from: its positions, the tokens of what it raises, the counters of its two copies. -/
def linear : sProp 𝕄 :=
  iprop(atPos ER (barCell c) 0 ∅ 0 ∗ (bigSep Finset.univ fun t : Fin 16 => atPos ER (sCell c t) 0 ∅ 0)
    ∗ (bigSep Finset.univ fun q : Fin 16 => atPos ER (rCell c q) 0 ∅ 0)
    ∗ (bigSep Finset.univ fun t : Fin 16 => dutyTok ER (barCell (up c t)) 0 c)
    ∗ (bigSep Finset.univ fun t : Fin 16 => dutyTok ER (sCell c t) 0 0)
    ∗ (bigSep Finset.univ fun t : Fin 16 => dutyTok ER (rCell (up c t) c) 0 0)
    ∗ semVal (wCell c 0) 0 ∗ semVal (wCell c 1) 0)

/-- The credits of its waits. -/
def credits : sProp 𝕄 :=
  iprop(cred (tallyAt (barCell c) () 16) ∗ bigSep Finset.univ fun q : Fin 16 => cred (tallyAt (rCell c q) () NB))

/-- Its buffers. -/
def buffers : sProp 𝕄 := iprop(wholeAny (F := F) c cc0_scratch0 ∗ wholeAny (F := F) c cc0_scratch2 ∗ wholeAny (F := F) c cc0_scratch3)

/-- What the body leaves. -/
def left : sProp 𝕄 :=
  iprop(semVal (barCell c) 0 ∗ (bigSep Finset.univ fun t : Fin 16 => drained (F := F) c t) ∗ (bigSep Finset.univ fun t : Fin 16 => sent (F := F) c t)
    ∗ idle m c 0 ∗ idle m c 1)

theorem from_all (Φ : Fin 16 → sProp 𝕄) : bigSep (from' 0) Φ = bigSep Finset.univ Φ := by rw [from_zero]
theorem upto_all (Φ : Fin 16 → sProp 𝕄) : bigSep (upto 16) Φ = bigSep Finset.univ Φ := by rw [upto_end]
theorem upto_none (Φ : Fin 16 → sProp 𝕄) : bigSep (upto 0) Φ = iprop(emp) := by rw [upto_zero]; rfl

theorem slot_fly (j : Fin 16) : slotAt m c j.val = fly m c (par j.val) (up c j) := by unfold slotAt; rw [dif_pos j.isLt]
theorem slot_idle (j : ℕ) (h : 16 ≤ j) : slotAt m c j = idle m c (par j) := by unfold slotAt; rw [dif_neg (by omega)]

theorem weights_halved : gPts m c ⊢ (iprop(gFree m c 0 ∗ gFree m c 1) : sProp 𝕄) :=
  (pointsTo_share (PosShare.mem_left_op_right _)).1
theorem weights_whole : (iprop(gFree m c 0 ∗ gFree m c 1) : sProp 𝕄) ⊢ gPts m c :=
  (pointsTo_share (PosShare.mem_left_op_right _)).2

theorem fin2 (Φ : Fin 2 → sProp 𝕄) : bigSep Finset.univ Φ = iprop(Φ 0 ∗ Φ 1) := bigSep_univ_eq_bigSepL [0, 1] (by decide) (by decide) Φ

/-- The run of the signals, -/
theorem signals : IA m ρ K c 0 ⊢ wpC c (seqN (n := 16) (fun t => semSignalWord (up c t) barS 1#32) 16 (Nat.le_refl _)) (fun _ => IA m ρ K c 16) :=
  wp_seqN c _ (IA m ρ K c) (signal_step m ρ K c) 16 (Nat.le_refl _)
/-- of the steps, -/
theorem steps : IC m ρ K c 0 ⊢ wpC c (seqN (n := 16) (stepC (scale m ρ c) c) 16 (Nat.le_refl _)) (fun _ => IC m ρ K c 16) :=
  wp_seqN c _ (IC m ρ K c) (step_step m ρ K c) 16 (Nat.le_refl _)
/-- of the drains, -/
theorem drains : ID m ρ K c 0 ⊢ wpC c (seqN (n := 16) (fun t => drainC (dn c t)) 16 (Nat.le_refl _)) (fun _ => ID m ρ K c 16) :=
  wp_seqN c _ (ID m ρ K c) (drain_step m ρ K c) 16 (Nat.le_refl _)
/-- of the waits for the sends. -/
theorem sents : IE m ρ K c 0 ⊢ wpC c (seqN (n := 16) (fun t => sentAt (F := F) (sSem t) t) 16 (Nat.le_refl _)) (fun _ => IE m ρ K c 16) :=
  wp_seqN c _ (IE m ρ K c) (sent_step m ρ K c) 16 (Nat.le_refl _)

theorem run_body :
    iprop(records m ρ K ∗ levAts L lv ∗ linear (F := F) c ∗ credits (F := F) c ∗ buffers (F := F) c ∗ gPts m c ∗ owesX c (O₀ c)
        ∗ xPts m ρ c ∗ s1Pts m ρ c ∗ s2Pts m ρ c ∗ wholeAny (F := F) c cc0_stg3_0)
      ⊢ wpC c bodyC (fun _ => iprop(left m c ∗ owesX c 0 ∗ xPts m ρ c ∗ s1Pts m ρ c ∗ s2Pts m ρ c
          ∗ (((c : Thread nD τ).loc cc0_stg3_0) ↦{fullShare} outAt m ρ c))) := by
  unfold bodyC linear credits buffers wpC
  simp only [Prog.lift, Prog.bind_op, Prog.bind_ret, wp_deviceId]
  iintro ⟨#HR, #Hlev, ⟨HatB, HatS, HatR, HtB, HtS, HtR, Hz0, Hz1⟩, ⟨HcB, HcR⟩, ⟨Hw, Hc, Hr⟩, Hg, HO, Hx, H1, H2, ⟨%g, Hout⟩⟩
  -- the two scales
  rw [wp_bind]
  unfold smemLoad
  iapply (wp_smemLoadElt 𝒱₀ (c : Thread nD τ) none Set.univ (m := s1M) (r := r1) (Finset.subset_univ _)) $$ H1; iintro H1
  rw [wp_ret]; imodintro
  rw [wp_bind]
  iapply (wp_smemLoadElt 𝒱₀ (c : Thread nD τ) none Set.univ (m := s2M) (r := r1) (Finset.subset_univ _)) $$ H2; iintro H2
  rw [wp_ret]; imodintro
  rw [show k0_pay1 _ _ = scale m ρ c from rfl]
  -- the signals
  ihave Hr' := ((r_split (F := F) c).trans (Entails.of_eq (bigSep_univ_equiv (upE c) (fun q => rAny (F := F) c q)))) $$ Hr
  ihave H := (signals m ρ K c) $$ [HO HtB Hr']
  · unfold IA
    isplitr; · iexact HR
    isplitl [HO]; · iexact HO
    rw [from_all, bigSep_sep']
    isplitl [HtB]; · iexact HtB
    iexact Hr'
  iapply (wpC_seq c) $$ H
  unfold IA
  rw [oB_end, add_zero]
  iintro %_ ⟨-, HO, -⟩
  -- the barrier
  ihave H := (barrier_wait m ρ K c) $$ [HO HcB HatB]
  · isplitr; · iexact HR
    isplitr; · iexact Hlev
    isplitl [HcB]; · iexact HcB
    isplitl [HatB]; · iexact HatB
    iexact HO
  iapply (wpC_seq c) $$ H
  iintro %_ ⟨HO, HatB, Hrs⟩
  -- the first two copies
  ihave Hg := (weights_halved m c) $$ Hg
  icases Hg with ⟨Hg0, Hg1⟩
  ihave Hw := ((w_split (F := F) c).trans (Entails.of_eq (fin2 _))) $$ Hw
  icases Hw with ⟨Hw0, Hw1⟩
  ihave H := (start_copy m c 0 (up c 0)) $$ [Hg0 Hw0 Hz0]
  · unfold idle
    isplitl [Hg0]; · iexact Hg0
    isplitl [Hw0] <;> iassumption
  iapply (wpC_seq c) $$ H
  iintro %_ Hf0
  ihave H := (start_copy m c 1 (up c 1)) $$ [Hg1 Hw1 Hz1]
  · unfold idle
    isplitl [Hg1]; · iexact Hg1
    isplitl [Hw1] <;> iassumption
  iapply (wpC_seq c) $$ H
  iintro %_ Hf1
  -- the steps
  ihave Hrs := (Entails.of_eq (bigSep_univ_equiv (upE c) (fun q => rAny (F := F) q c))) $$ Hrs
  ihave Hc := (c_split (F := F) c) $$ Hc
  ihave H := (steps m ρ K c) $$ [HO Hx Hf0 Hf1 Hc HtS HtR Hrs]
  · unfold IC
    isplitr; · iexact HR
    isplitr; · iexact Hlev
    isplitl [Hx]; · iexact Hx
    isplitl [HO]; · iexact HO
    isplitl [Hf0]; · iapply (Entails.of_eq (slot_fly m c 0).symm); iexact Hf0
    isplitl [Hf1]; · iapply (Entails.of_eq (slot_fly m c 1).symm); iexact Hf1
    unfold stepRes
    rw [from_all, upto_none, bigSep_sep', bigSep_sep', bigSep_sep']
    isplitl
    · isplitl [Hc]; · iexact Hc
      isplitl [HtS]; · iexact HtS
      isplitl [HtR]; · iexact HtR
      iexact Hrs
    iempintro
  iapply (wpC_seq c) $$ H
  unfold IC
  rw [oR_end, upto_all]
  iintro %_ ⟨-, -, Hx, HO, Hi0, Hi1, -, HcS⟩
  -- the drains
  ihave HatR := (Entails.of_eq (bigSep_univ_equiv (dnE c) (fun q => (atPos ER (rCell c q) 0 ∅ 0 : sProp 𝕄)))) $$ HatR
  ihave HcR := (Entails.of_eq (bigSep_univ_equiv (dnE c) (fun q => (cred (tallyAt (rCell c q) () NB) : sProp 𝕄)))) $$ HcR
  ihave H := (drains m ρ K c) $$ [HO HatR HcR Hout]
  · unfold ID drainRes
    isplitr; · iexact HR
    isplitl [HO]; · iexact HO
    rw [from_all, upto_none, bigSep_sep']
    isplitl [HatR HcR]
    · isplitl [HatR]; · iexact HatR
      iexact HcR
    isplitr; · iempintro
    iexists g
    isplitr
    · ipureintro; intro t h; exact absurd h (Nat.not_lt_zero _)
    iexact Hout
  iapply (wpC_seq c) $$ H
  unfold ID
  rw [upto_all]
  iintro %_ ⟨-, HO, -, Hdr, ⟨%g', %hg', Hout⟩⟩
  have hg' := out_ext m ρ c g' hg'
  subst hg'
  -- the waits for the sends
  ihave H := (sents m ρ K c) $$ [HO HatS HcS]
  · unfold IE sentRes
    isplitr; · iexact HR
    isplitl [HO]; · iexact HO
    rw [from_all, upto_none, bigSep_sep']
    isplitl
    · isplitl [HatS]; · iexact HatS
      iexact HcS
    iempintro
  imod (Rounds.cell_close ER (Rd m ρ) (Set.mem_univ (K (c, kB))) (fun h => h) (R := 0 + 1) (duties_later m ρ (barCell c))) $$ [HatB] with HzB
  · isplitr; · iapply (rec_inv m ρ K (c, kB)); iexact HR
    iexact HatB
  iapply (wpC_last c) $$ H
  unfold IE
  rw [upto_all]
  iintro %_ ⟨-, HO, -, Hse⟩
  isplitl [HzB Hdr Hse Hi0 Hi1]
  · unfold left
    isplitl [HzB]; · iexact HzB
    isplitl [Hdr]; · iexact Hdr
    isplitl [Hse]; · iexact Hse
    isplitl [Hi0]
    · iapply (Entails.of_eq (slot_idle m c 16 (by decide))); iexact Hi0
    iapply (Entails.of_eq (slot_idle m c 17 (by decide))); iexact Hi1
  isplitl [HO]; · iexact HO
  isplitl [Hx]; · iexact Hx
  isplitl [H1]; · iexact H1
  isplitl [H2]; · iexact H2
  iexact Hout

end Cert.ScatterProof

end
-- ==== Proof.Launch.lean ====
/- The launch of the sixteen devices: what each is dealt, that its body keeps the pipeline's contract, and the run of
   @main from any memory with zero counters.
-/
module

public import proofs.«01_k».proof.Proof.Body
public import proofs.«01_k».proof.Proof.Gen.KernelIdeal.Points

@[expose] public section

set_option maxRecDepth 16384

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's contract -/

/-- What device `c`'s body starts from. -/
def start (c : Dev nD) : sProp 𝕄 :=
  iprop((∃ K, records m ρ K ∗ linear (F := F) c) ∗ credits (F := F) c ∗ levAts L lv ∗ gPts m c)
def Φ₀ (c : Dev nD) : sProp 𝕄 := iprop(start m ρ c ∗ buffers (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => s1stg m ρ c
    | ⟨2, _⟩ => s2stg m ρ c
    | ⟨3, _⟩ => outAt m ρ c
  Φ t := match t with
    | ⟨0, _⟩ => Φ₀ m ρ c
    | ⟨_ + 1, _⟩ => left m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(left m c ∗ (dats m ρ 0 c).owesAt () t₀.succ ∗ stg c cc0_stg0_0 (xstg m ρ c) ∗ stg c cc0_stg1_0 (s1stg m ρ c)
    ∗ stg c cc0_stg2_0 (s2stg m ρ c) ∗ stg c cc0_stg3_0 (outAt m ρ c))

theorem sound_body (c : Dev nD) : bodyPre m ρ c ⊢ wpC c bodyC (fun _ => bodyPost m ρ c) := by
  unfold bodyPre Φ₀ start
  iintro ⟨⟨⟨⟨%K, #HR, Hlin⟩, Hcr, #Hlev, Hg⟩, Hb⟩, Ho, ⟨%d0, %g0, %hg0, Hx⟩, ⟨%d1, %g1, %hg1, H1⟩, ⟨%d2, %g2, %hg2, H2⟩, ⟨%d3, %g3, %hg3, Hout⟩⟩
  have hx : g0 = xstg m ρ c := by rw [hg0]; unfold Dat.before; rw [if_pos (fetch0_0 t₀)]; rfl
  have h1 : g1 = s1stg m ρ c := by rw [hg1]; unfold Dat.before; rw [if_pos (fetch0_1 t₀)]; rfl
  have h2 : g2 = s2stg m ρ c := by rw [hg2]; unfold Dat.before; rw [if_pos (fetch0_2 t₀)]; rfl
  subst hx h1 h2
  unfold Dat.owesAt Pipeline.owesWithin
  icases Ho with ⟨%W, %hW, HO⟩
  rw [show (dats m ρ 0 c).owed t₀.castSucc = O₀ c from rfl]
  ihave H := (run_body m ρ K c) $$ [Hlin Hcr Hg Hb HO Hx H1 H2 Hout]
  · isplitr; · iexact HR
    isplitr; · iexact Hlev
    isplitl [Hlin]; · iexact Hlin
    isplitl [Hcr]; · iexact Hcr
    isplitl [Hb]; · iexact Hb
    isplitl [Hg]; · iexact Hg
    isplitl [HO]; · unfold owesX; iexists W; iexact HO
    isplitl [Hx]; · unfold xPts; iexact Hx
    isplitl [H1]; · iexact H1
    isplitl [H2]; · iexact H2
    iexists g3; iexact Hout
  iapply (wpC_last c) $$ H
  unfold owesX xPts
  iintro %_ ⟨Hl, ⟨%W', HO⟩, Hx, H1, H2, Hout⟩
  unfold bodyPost Dat.owesAt Pipeline.owesWithin
  rw [show (dats m ρ 0 c).owed t₀.succ = 0 from rfl]
  isplitl [Hl]; · iexact Hl
  isplitl [HO]
  · iexists W'
    isplitr; · ipureintro; exact fun _ _ => Or.inl trivial
    iexact HO
  isplitl [Hx]
  · iexists _; isplitr; · (ipureintro; rfl)
    iexact Hx
  isplitl [H1]
  · iexists _; isplitr; · (ipureintro; rfl)
    iexact H1
  isplitl [H2]
  · iexists _; isplitr; · (ipureintro; rfl)
    iexact H2
  iexists _; isplitr; · (ipureintro; rfl)
  iexact Hout

/-- The pipeline's obligation on the body, on device `c`. -/
theorem body_obligation (c : Dev nD) : BodyObligation (dats (F := F) m ρ 0 c) (defs₀ (F := F)) 𝒱₀ () Set.univ := fun t => by
  rw [fin_N t]
  rw [bigSep_W0, bigSep_W0]
  simp only [whole_eq]
  show bodyPre m ρ c ⊢ wp frame (wpE (defs₀ (F := F)) 𝒱₀ c none) Set.univ (bodyAt0 t₀) (fun _ => bodyPost m ρ c)
  rw [show bodyAt0 (F := F) t₀ = bodyC from cc0_body_eq]
  exact sound_body m ρ c

end Cert.ScatterProof

end
-- ==== Proof.Deal.lean ====
/- What the launch deals to the sixteen devices: the cells' counters and records, the tokens of what each raises, the
   credits of what each waits for.
-/
module

public import proofs.«01_k».proof.Proof.Launch

@[expose] public section

set_option maxRecDepth 16384

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The two of the weights' copies, the sixteen of the sends, the sixteen of the receives. -/
abbrev Ko : Type := Fin 2 ⊕ (Fin 16 ⊕ Fin 16)
def osem : Ko → SemLoc sig
  | .inl s => .dma (wSem s)
  | .inr (.inl t) => .dma (sSem t)
  | .inr (.inr q) => .dma (rSem q)

theorem ownSemFacts : Pipeline.OwnSemFacts cfg0.spec osem := by decide

theorem csem_injective : Function.Injective csem := by decide

theorem kcell_injective : Function.Injective (kcell : Dev nD × Kd → GSem nD τ sig) := by
  rintro ⟨c, k⟩ ⟨c', k'⟩ h
  have h1 : c = c' := congrArg (fun g : GSem nD τ sig => g.1.1) h
  have h2 : csem k = csem k' := congrArg Prod.snd h
  rw [h1, csem_injective h2]

def cells : Finset (GSem nD τ sig) := Finset.univ.map ⟨kcell, kcell_injective⟩

/-- The duties of a device's own cells: sixteen at its barrier, one at each send and each receive. -/
abbrev Tk : Type := Fin 16 ⊕ (Fin 16 ⊕ Fin 16)
def tokKd : Tk → Kd
  | .inl _ => kB
  | .inr (.inl t) => kS t
  | .inr (.inr q) => kR q
def tokNo : Tk → Fin 16
  | .inl d => d
  | .inr _ => 0
def tokOf (cj : Dev nD × Tk) : GSem nD τ sig × ℕ × Fin 16 := (kcell (cj.1, tokKd cj.2), 0, tokNo cj.2)

theorem tok_pair_injective : Function.Injective fun j : Tk => (tokKd j, tokNo j) := by decide
theorem tokOf_injective : Function.Injective tokOf := by
  rintro ⟨c, j⟩ ⟨c', j'⟩ h
  have h0 : kcell (c, tokKd j) = kcell (c', tokKd j') := congrArg Prod.fst h
  have h3 : tokNo j = tokNo j' := congrArg (fun x : GSem nD τ sig × ℕ × Fin 16 => x.2.2) h
  have h1 := kcell_injective h0
  have h2 : tokKd j = tokKd j' := congrArg Prod.snd h1
  have h4 : c = c' := congrArg Prod.fst h1
  rw [h4, tok_pair_injective (Prod.ext h2 h3)]
def allToks : Finset (GSem nD τ sig × ℕ × Fin 16) := Finset.univ.map ⟨tokOf, tokOf_injective⟩

def u₀ : UU := (initOf (Pipeline.cells cfgs cellOf_inj) (Pipeline.launchToks cfgs cellOf_inj), (initOf cells allToks, 1))

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## What the launch element deals -/

/-- The duty tokens of device `c`'s own cells. -/
def toks (c : Dev nD) : sProp 𝕄 :=
  iprop((bigSep Finset.univ fun d : Fin 16 => dutyTok ER (barCell c) 0 d) ∗ (bigSep Finset.univ fun t : Fin 16 => dutyTok ER (sCell c t) 0 0)
    ∗ bigSep Finset.univ fun q : Fin 16 => dutyTok ER (rCell c q) 0 0)

def G (c : Dev nD) : sProp 𝕄 :=
  iprop((bigSep Finset.univ fun k : Kd => roundState ER (Rd m ρ) (kcell (c, k)) 0)
    ∗ (bigSep Finset.univ fun k : Kd => iprop(atPos ER (kcell (c, k)) 0 ∅ 0 ∗ reached ER (kcell (c, k)) 0)) ∗ toks (F := F) c)

def G' (c : Dev nD) : sProp 𝕄 := iprop(∃ K, records m ρ K ∗ linear (F := F) c)

theorem sum_unit {A : Type} [Fintype A] (Φ : Unit ⊕ A → sProp 𝕄) :
    bigSep Finset.univ Φ = iprop(Φ (.inl ()) ∗ bigSep Finset.univ fun a => Φ (.inr a)) := by
  rw [bigSep_univ_sum, Finset.univ_unique, bigSep_singleton]; rfl

theorem sum_pair {A B : Type} [Fintype A] [Fintype B] (Φ : A ⊕ B → sProp 𝕄) :
    bigSep Finset.univ Φ = iprop((bigSep Finset.univ fun a => Φ (.inl a)) ∗ bigSep Finset.univ fun b => Φ (.inr b)) := by
  rw [bigSep_univ_sum]; rfl

theorem fund : BI.own (ER (initOf cells allToks)) ⊢ (|==> bigSep Finset.univ (G m ρ) : sProp 𝕄) := by
  have hX (Φ : GSem nD τ sig → sProp 𝕄) : bigSep cells Φ = bigSep Finset.univ fun c : Dev nD => bigSep Finset.univ fun k : Kd => Φ (kcell (c, k)) := by
    unfold cells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  iintro HX
  imod (Rounds.fund ER (Rd m ρ) cells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The kernel's own semaphores at zero. -/
def ownZeros (c : Dev nD) : sProp 𝕄 :=
  iprop((bigSep Finset.univ fun s : Fin 2 => semVal (wCell c s) 0) ∗ (bigSep Finset.univ fun t : Fin 16 => semVal (sCell c t) 0)
    ∗ bigSep Finset.univ fun q : Fin 16 => semVal (rCell c q) 0)

theorem ownSems0_eq (c : Dev nD) :
    (Pipeline.ownSems0 (Ix := Unit) (Name := ℕ) (U := UU) (Lvl := ℕ) (Val := Elt F) (τ := τ) osem c : sProp 𝕄) = ownZeros (F := F) c := by
  unfold Pipeline.ownSems0 ownZeros; rw [bigSep_univ_sum, bigSep_univ_sum]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Kd => semVal (kcell (c, k)) 0) ∗ semVal (wCell c 0) 0 ∗ semVal (wCell c 1) 0) : sProp 𝕄) := by
  rw [ownSems0_eq, unscopedSems0_eq, sum_unit, sum_pair]
  unfold ownZeros
  rw [fin2]
  iintro ⟨⟨⟨H0, H1⟩, HS, HR⟩, HB⟩
  isplitr [H0 H1]
  · isplitl [HB]; · iexact HB
    isplitl [HS]; · iexact HS
    iexact HR
  isplitl [H0]; · iexact H0
  iexact H1

/-- What stays of a device's own after its cells are recorded. -/
def kept (c : Dev nD) : sProp 𝕄 := iprop(semVal (wCell c 0) 0 ∗ semVal (wCell c 1) 0)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c ∗ kept (F := F) c) := by
  unfold G
  iintro ⟨Hos, Hus, Hst, Hat, Htok⟩
  ihave Hv := (sems0_eq (F := F) c) $$ [Hos Hus]
  · isplitl [Hos] <;> iassumption
  icases Hv with ⟨Hv, Hk⟩
  imod (show iprop((bigSep Finset.univ fun k : Kd => semVal (kcell (c, k)) 0) ∗ bigSep Finset.univ fun k : Kd => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  unfold kept; iexact Hk

/-! ## The tokens go to who pays -/

/-- The tokens of what device `c` pays. -/
def payToks (c : Dev nD) : sProp 𝕄 :=
  iprop((bigSep Finset.univ fun t : Fin 16 => dutyTok ER (barCell (up c t)) 0 c)
    ∗ (bigSep Finset.univ fun t : Fin 16 => dutyTok ER (sCell c t) 0 0)
    ∗ (bigSep Finset.univ fun t : Fin 16 => dutyTok ER (rCell (up c t) c) 0 0))

/-- Device `c` at turn `t` serves device `up c t`, which knows it by its number. -/
def turn : Dev nD × Fin 16 ≃ Dev nD × Dev nD where
  toFun x := (up x.1 x.2, x.1)
  invFun y := (y.2, (upE y.2).symm y.1)
  left_inv x := Prod.ext rfl ((upE x.1).symm_apply_apply x.2)
  right_inv y := Prod.ext ((upE y.2).apply_symm_apply y.1) rfl

theorem swap (Φ : Dev nD → Fin 16 → sProp 𝕄) :
    (bigSep Finset.univ fun c : Dev nD => bigSep Finset.univ fun d : Fin 16 => Φ c d)
      = bigSep Finset.univ fun c : Dev nD => bigSep Finset.univ fun t : Fin 16 => Φ (up c t) c := by
  rw [← bigSep_univ_prod (fun y : Dev nD × Dev nD => Φ y.1 y.2), bigSep_univ_equiv turn (fun y : Dev nD × Dev nD => Φ y.1 y.2), bigSep_univ_prod]
  rfl

theorem toks_dealt : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', swap (fun c d => dutyTok ER (barCell c) 0 d), swap (fun c q => dutyTok ER (rCell c q) 0 0)]

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One device's share, its records beside it. -/
theorem share_intro (K : Dev nD × Kd → ℕ) (c : Dev nD) :
    iprop(records m ρ K ∗ ((bigSep Finset.univ fun k : Kd => atPos ER (kcell (c, k)) 0 ∅ 0) ∗ payToks (F := F) c ∗ kept (F := F) c)) ⊢ G' m ρ c := by
  unfold payToks kept G' linear
  rw [sum_unit, sum_pair]
  iintro ⟨#HR, ⟨HB, HS, HV⟩, ⟨H1, H2, H3⟩, H4, H5⟩
  iexists K
  isplitr; · iexact HR
  isplitl [HB]; · iexact HB
  isplitl [HS]; · iexact HS
  isplitl [HV]; · iexact HV
  isplitl [H1]; · iexact H1
  isplitl [H2]; · iexact H2
  isplitl [H3]; · iexact H3
  isplitl [H4]; · iexact H4
  iexact H5

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c ∗ kept (F := F) c) : sProp 𝕄)
      ⊢ bigSep Finset.univ (G' m ρ) := by
  rw [bigSep_sep', bigSep_sep', bigSep_sep', ← bigSep_univ_prod (fun ck : Dev nD × Kd => iprop(∃ κ : ℕ, cellInv ER (Rd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok, Hk⟩
  ihave HK := (BI.bigSep_exists_pi Finset.univ (fun (ck : Dev nD × Kd) (κ : ℕ) => (cellInv ER (Rd m ρ) κ (kcell ck) : sProp 𝕄))) $$ HI
  icases HK with ⟨%K, #HI⟩
  ihave Htk := (toks_dealt (F := F)) $$ Htok
  iapply (bigSep_beside (R := records m ρ K) fun c _ => share_intro m ρ K c)
  isplitr
  · unfold records; isplitl; · iexact HI
    iexact HR
  rw [bigSep_sep', bigSep_sep']
  isplitl [Hat]; · iexact Hat
  isplitl [Htk]; · iexact Htk
  iexact Hk

/-- Every device's counters recorded at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

/-- What device `d` owes the barrier of `c`: one unit. -/
theorem owed_bar (d c : Dev nD) : O₀ d (barCell c) () = 1 := by
  have h1 : oB d 0 = ∑ p : Dev nD, (tallyAt (barCell p) () 1 : CellTallies nD τ sig Unit) := by
    unfold oB; rw [from_zero]; exact Equiv.sum_comp (upE d) fun p => tallyAt (barCell p) () 1
  have h2 : oR d 0 (barCell c) () = 0 := by
    by_contra hne
    obtain ⟨t, ht⟩ := oR_pos (Nat.pos_of_ne_zero hne)
    exact absurd (congrArg Prod.snd ht) (fun h => by cases h)
  unfold O₀
  rw [Pi.add_apply, Finsupp.add_apply, h2, Nat.zero_add, h1, Finset.sum_apply, Finsupp.finset_sum_apply, Finset.sum_eq_single c]
  · rw [tallyAt_apply, if_pos ⟨rfl, rfl⟩]
  · intro p _ hp
    rw [tallyAt_apply, if_neg fun h => hp (congrArg (fun g : GSem nD τ sig => g.1.1) h.1).symm]
  · intro h; exact absurd (Finset.mem_univ _) h

/-- What device `d` owes the receives of `c`: a block at the one it serves. -/
theorem owed_recv (d c : Dev nD) (q : Fin 16) : O₀ d (rCell c q) () = if d = q then NB else 0 := by
  have h1 : oR d 0 = ∑ p : Dev nD, (tallyAt (rCell p d) () NB : CellTallies nD τ sig Unit) := by
    unfold oR; rw [from_zero]; exact Equiv.sum_comp (upE d) fun p => tallyAt (rCell p d) () NB
  have h2 : oB d 0 (rCell c q) () = 0 := by
    by_contra hne
    obtain ⟨t, -, ht⟩ := sum_tally_pos (from' 0) (fun t => barCell (up d t)) 1 (Nat.pos_of_ne_zero hne)
    exact absurd (congrArg Prod.snd ht) (fun h => by cases h)
  have hq (p : Dev nD) (h : rCell c q = rCell p d) : c = p ∧ q = d := by
    have := kcell_injective (a₁ := (c, kR q)) (a₂ := (p, kR d)) h
    simpa using this
  unfold O₀
  rw [Pi.add_apply, Finsupp.add_apply, h2, Nat.add_zero, h1, Finset.sum_apply, Finsupp.finset_sum_apply]
  by_cases h : d = q
  · subst h
    rw [if_pos rfl, Finset.sum_eq_single c]
    · rw [tallyAt_apply, if_pos ⟨rfl, rfl⟩]
    · intro p _ hp; rw [tallyAt_apply, if_neg fun h => hp (hq p h.1).1.symm]
    · intro h; exact absurd (Finset.mem_univ _) h
  · rw [if_neg h]
    exact Finset.sum_eq_zero fun p _ => by rw [tallyAt_apply, if_neg fun h' => h (hq p h'.1).2.symm]

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]; rfl

theorem launch_recv (c : Dev nD) (q : Fin 16) :
    tallyOn (rCell c q) (launchCredit (Pipeline.owing O₀) 0 (rCell c q)) = (tallyAt (rCell c q) () NB : CellTallies nD τ sig Unit) := by
  unfold tallyAt; refine congrArg _ (Finsupp.ext fun u => ?_); cases u
  rw [Pipeline.launchCredit_owing, Finsupp.single_eq_same, Finset.sum_congr rfl fun d _ => owed_recv d c q, Finset.sum_ite_eq' Finset.univ q fun _ => NB,
    if_pos (Finset.mem_univ _)]

/-- The semaphores that a device waits on with credits of others. -/
def waitSem : Unit ⊕ Fin 16 → SemLoc sig
  | .inl _ => .reg barS
  | .inr q => .dma (rSem q)
theorem waitSem_injective : Function.Injective waitSem := by decide

theorem creds (c : Dev nD) : (Pipeline.launchCred O₀ c : sProp 𝕄) ⊢ credits (F := F) c := by
  unfold Pipeline.launchCred credits
  refine (show _ ⊢ _ from bigSep_subset (t := Finset.univ.map ⟨waitSem, waitSem_injective⟩) (Finset.subset_univ _)).trans (Entails.of_eq ?_)
  rw [bigSep_map, sum_unit]
  refine congrArg₂ (fun a b => iprop(a ∗ b)) ?_ ?_
  · exact congrArg (fun x => (cred x : sProp 𝕄)) (launch_bar c)
  · exact bigSep_congr fun q _ => congrArg (fun x => (cred x : sProp 𝕄)) (launch_recv c q)

end Cert.ScatterProof

end
-- ==== Proof.Run.lean ====
/- The run of the whole program: every weakly fair execution ends, with the results named and the arguments unchanged. -/
module

public import proofs.«01_k».proof.Proof.Deal
public import Idealize.ShloMosaic.Lib.Pipeline.Quiescent

@[expose] public section

set_option maxRecDepth 16384

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hg, Hlev, Hcr, -, HG⟩
  ihave Hc := (creds (F := F) c) $$ Hcr
  imodintro
  unfold start G' gPts
  isplitl
  · isplitl [HG]; · iexact HG
    isplitl [Hc]; · iexact Hc
    isplitl [Hlev]; · iexact Hlev
    iexact Hg
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ buffers
  iintro ⟨Hs, -, Hr⟩
  isplitl [Hs]; · iexact Hs
  iexact Hr

/-- What the run leaves unscoped besides the windows' arrays. -/
def after (c : Dev nD) : sProp 𝕄 := iprop(unscopedSems0 c ∗ gPts m c)

theorem drained_all (c : Dev nD) :
    (bigSep Finset.univ fun t : Fin 16 => drained (F := F) c t)
      ⊢ (iprop((bigSep Finset.univ fun q : Fin 16 => rAny c q) ∗ bigSep Finset.univ fun q : Fin 16 => semVal (rCell c q) 0) : sProp 𝕄) := by
  rw [← bigSep_sep', bigSep_univ_equiv (dnE c) fun q => iprop(rAny (F := F) c q ∗ semVal (rCell c q) 0)]
  exact Entails.of_eq rfl

theorem phi1_exit (c : Dev nD) :
    (dats m ρ 0 c).Φ (Fin.last cfg0.N) ⊢ iprop(after m c ∗ Pipeline.ownSems0 osem c ∗ Pipeline.scopedRest cfg0.spec c) := by
  rw [show (dats m ρ 0 c).Φ (Fin.last cfg0.N) = left m c from rfl, scopedRest0_eq, ownSems0_eq]
  unfold left idle after ownZeros
  rw [unscopedSems0_eq, fin2]
  iintro ⟨HB, Hd, Hs, ⟨G0, W0, z0⟩, ⟨G1, W1, z1⟩⟩
  ihave Hd' := (drained_all (F := F) c) $$ Hd
  icases Hd' with ⟨HR, zR⟩
  ihave Hs' := (show (bigSep Finset.univ fun t : Fin 16 => sent (F := F) c t)
      ⊢ (iprop((bigSep Finset.univ fun t : Fin 16 => sPay c t) ∗ bigSep Finset.univ fun t : Fin 16 => semVal (sCell c t) 0) : sProp 𝕄) from by
        rw [← bigSep_sep']; exact Entails.of_eq rfl) $$ Hs
  icases Hs' with ⟨HC, zS⟩
  isplitl [HB G0 G1]
  · isplitl [HB]; · iexact HB
    iapply (weights_whole m c)
    isplitl [G0] <;> iassumption
  isplitl [z0 z1 zS zR]
  · isplitl [z0 z1]
    · isplitl [z0] <;> iassumption
    isplitl [zS] <;> iassumption
  isplitl [W0 W1]
  · iapply (w_join (F := F) c)
    rw [fin2]
    isplitl [W0] <;> iassumption
  isplitl [HC]
  · iapply (c_join (F := F) c); iexact HC
  iapply (r_join (F := F) c); iexact HR

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) 0 0
    · rw [show (dats m ρ 0 c).owed ⟨_ + 1, ht⟩ = 0 from rfl, ← oR_end c, ← add_zero (oR c 16), ← oB_end c]
      exact mayWait_low c _ (by fin_cases w <;> fin_cases s <;> decide) 16 16

def finalA (c : Dev nD) (w : Fin cfg0.W) : Buf (Elt F) ((cfg0.win w).arr.view.loc (c : Thread nD τ)) := (dats m ρ 0 c).arrAt w cfg0.N

/-- The windows' arrays at their final contents, the weights unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem read_after (c : Dev nD) (s' : Phys nD τ sig (Elt F)) :
    iprop(after m c ∗ SI s') ⊢ |={Set.univ}=> (iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  unfold after gPts
  iintro ⟨⟨Hu, Hg⟩, HSI⟩
  ihave %hg := (SI_pointsTo_agree (st := s') (q := fullShare) (ℓ := (c : Thread nD τ).loc main_arg1) (f := wmem m c) (I := Finset.univ)) $$ [Hg HSI]
  · isplitl [HSI] <;> iassumption
  ihave %hu := (tcUnscoped_read c s') $$ [Hu HSI]
  · isplitl [Hu] <;> iassumption
  imodintro
  isplitr
  · ipureintro; exact ⟨hu, funext fun i => hg i (Finset.mem_univ i)⟩
  iexact HSI

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (own_split (F := F) _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := after m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Ha, -, HSI⟩
      iapply (read_after m c s')
      isplitl [Ha] <;> iassumption)
    (hQ := fun _ h hs => ⟨fun c => ⟨(h c).1, (h c).2.2.2⟩, sem_eq_zero hs fun c => (h c).2.2.1⟩)

end Cert.ScatterProof

end
-- ==== Proof.Frames.lean ====
/- The frames: the programs end, their arguments unchanged and every counter at zero. -/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.UnclippedIdeal.Run
public import Idealize.ShloMosaic.Lib.Quiescent

@[expose] public section

set_option maxRecDepth 16384

noncomputable section

namespace Cert.ScatterProof

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem final_x (c : Dev nD) : finalA m ρ c (0 : Fin 4) = m ((c : Thread nD τ).loc main_arg0) := (dats m ρ 0 c).arrAt_in (0 : Fin 4) rfl _
theorem final_s1 (c : Dev nD) : finalA m ρ c (1 : Fin 4) = m ((c : Thread nD τ).loc main_arg2) := (dats m ρ 0 c).arrAt_in (1 : Fin 4) rfl _
theorem final_s2 (c : Dev nD) : finalA m ρ c (2 : Fin 4) = m ((c : Thread nD τ).loc main_arg3) := (dats m ρ 0 c).arrAt_in (2 : Fin 4) rfl _

/-- The results at the output window's final contents, the arguments unchanged, the counters at zero. -/
def Ended (r : PUnit × MemSt nD τ sig (Elt F)) : Prop :=
  (∀ c : Dev nD, r.2.mem ((c.tc : Thread nD τ).loc main_v1) = finalA m ρ c (3 : Fin 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0

theorem ended (r : PUnit × MemSt nD τ sig (Elt F)) (h : QC m ρ r ∧ r.2.sem = fun _ => 0) : Ended m ρ r := by
  refine ⟨fun c => ⟨?_, ?_, (h.1 c).2, ?_, ?_⟩, h.2⟩
  · exact (h.1 c).1 (3 : Fin 4)
  · exact ((h.1 c).1 (0 : Fin 4)).trans (final_x m ρ c)
  · exact ((h.1 c).1 (1 : Fin 4)).trans (final_s1 m ρ c)
  · exact ((h.1 c).1 (2 : Fin 4)).trans (final_s2 m ρ c)

theorem run_kernel : θ_run defs (onTc (τ := τ) (main (F := F))) (s₀ m ρ) (Ended m ρ) :=
  (θ_run defs _ _).mono (ended m ρ) (run_main m ρ)

theorem frame_kernel_ideal : Cert.quiescent_KernelIdeal := fun m ρ _ =>
  (θ_run (Cert.KernelIdeal.defs (F := Ideal)) _ _).mono (fun _ h => ⟨fun c => (h.1 c).2, h.2⟩) (run_kernel (F := Ideal) m ρ)
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)
theorem frame_unclipped : Cert.quiescent_UnclippedIdeal := fun m ρ _ =>
  (θ_run (Cert.UnclippedIdeal.defs (F := Ideal)) _ _).mono (fun r h => ⟨fun c => (h c).2, sem_eq_zero_of_no_sems rfl r.2⟩)
    (Cert.UnclippedIdeal.Value.run (F := Ideal) m ρ)

/-! ## The kernel over bits and over the reals are one text -/

theorem defs0_same : Cert.Kernel.defs₀ (F := Bits) = Cert.KernelIdeal.defs₀ (F := Bits) := by
  unfold Cert.Kernel.defs₀ Cert.KernelIdeal.defs₀
  refine congrArg Defs.onTc (funext fun l => ?_)
  have hl : l = 0 := Subsingleton.elim _ _
  subst hl
  rfl
theorem defs_same : Cert.Kernel.defs (F := Bits) = Cert.KernelIdeal.defs (F := Bits) :=
  congrArg (Pipeline.defs Cert.KernelIdeal.pcfgs) defs0_same
theorem main_same : Cert.Kernel.main (F := Bits) = Cert.KernelIdeal.main (F := Bits) := rfl

theorem frame_kernel : Cert.quiescent_Kernel := by
  intro m ρ _
  have h := run_kernel (F := Bits) m ρ
  rw [← defs_same, ← main_same] at h
  refine (θ_run (Cert.Kernel.defs (F := Bits)) _ _).mono ?_ h
  rintro r ⟨h1, h2⟩
  exact ⟨fun c => (h1 c).2, h2⟩

end Cert.ScatterProof

end
-- ==== Proof.Read.lean ====
/- The numbers: what a block of the kernel, an element of a reference and an element of a precondition are, each as a
function of one row of the activations, one column of the weights and the two scales. -/
module

public import proofs.«01_k».proof.Defs
public import proofs.«01_k».proof.Proof.Gen.UnclippedIdeal
public import proofs.«01_k».proof.Proof.Sched
public import Idealize.ShloMosaic.Lib.IntMxu
public import Idealize.ShloMosaic.Lib.Pointwise
public import Idealize.ShloMosaic.Lib.IdealHost

@[expose] public section

set_option maxRecDepth 16384

noncomputable section

namespace Cert.ScatterProof

open Idealize.ShloMosaic
open scoped BigOperators

/-- The sum of the products of a row and a column, over the integers; -/
def rowDot (x w : Fin 4096 → BitVec 8) : ℤ := ∑ k, (x k).toInt * (w k).toInt
/-- and the sum of their magnitudes. -/
def rowAbs (x w : Fin 4096 → BitVec 8) : ℕ := ∑ k, ((x k).toInt * (w k).toInt).natAbs

/-- The scaled product. -/
def scaledBy (x w : Fin 4096 → BitVec 8) (s : EReal) : EReal := ((rowDot x w : ℝ) : EReal) * s
/-- `y` times its sigmoid. -/
def swish (y : EReal) : EReal := Ideal.div y (1 + Ideal.exp (-y))

theorem exp_nonneg (y : EReal) : 0 ≤ Ideal.exp y := by
  induction y with
  | bot => simp
  | top => simp
  | coe r => rw [Ideal.exp_coe]; exact_mod_cast (Real.exp_pos r).le

theorem denom_ne (y : EReal) : 1 + Ideal.exp (-y) ≠ 0 := by
  have h : (0 : EReal) < 1 + Ideal.exp (-y) := lt_of_lt_of_le zero_lt_one (le_add_of_nonneg_right (exp_nonneg _))
  exact h.ne'

theorem mul_logistic (y : EReal) : y * Ideal.logistic y = swish y := by
  unfold Ideal.logistic swish
  exact Ideal.mul_one_div (denom_ne y)

/-! ## A block of the kernel -/

section Kernel
open Cert.KernelIdeal Cert.KernelIdeal.Gen

theorem slotted_cast (Y : Vec Ideal S4096x512 .i8) : shapeCast S4096x512 (slotted (F := Ideal) Y) shapeCasts_S1x4096x512_S4096x512 = Y := by
  funext i
  show Y ((Shape.reshapeEquiv nW).symm (Shape.reshapeEquiv _ i)) = Y i
  rw [Shape.reshapeEquiv_symm, Shape.reshapeEquiv_reshapeEquiv, Shape.reshapeEquiv_self]

theorem dotI8_row (X : IVec S256x4096 8) (Y : IVec S4096x512 8) (j : S256x512.Idx) :
    dotI8 dot_S256x4096_S4096x512_S256x512_1_0_0_1_n_n X Y j = rowDot (fun k => X (ix2 (j 0) k)) (fun k => Y (ix2 k (j 1))) := by
  unfold dotI8 rowDot
  rw [DotDims.sum_contr₁ (d := dot_S256x4096_S4096x512_S256x512_1_0_0_1_n_n) (a := (1 : Fin 2)) rfl (K := 4096) rfl]
  refine Finset.sum_congr rfl fun k _ => ?_
  congr 3
  all_goals (congr 1; funext a; fin_cases a <;> rfl)

theorem absDotI8_row (X : IVec S256x4096 8) (Y : IVec S4096x512 8) (j : S256x512.Idx) :
    absDotI8 dot_S256x4096_S4096x512_S256x512_1_0_0_1_n_n X Y j = rowAbs (fun k => X (ix2 (j 0) k)) (fun k => Y (ix2 k (j 1))) := by
  unfold absDotI8 rowAbs
  rw [DotDims.sum_contr₁ (d := dot_S256x4096_S4096x512_S256x512_1_0_0_1_n_n) (a := (1 : Fin 2)) rfl (K := 4096) rfl]
  refine Finset.sum_congr rfl fun k _ => ?_
  congr 4
  all_goals (congr 1; funext a; fin_cases a <;> rfl)

theorem cast_self (X : Vec Ideal S256x4096 .i8) : shapeCast S256x4096 X shapeCasts_S256x4096_S256x4096 = X := by
  funext i
  show X (Shape.reshapeEquiv _ i) = X i
  rw [Shape.reshapeEquiv_self]

theorem cast_slot (V : FVec Ideal S256x512 .bf16) (j : S256x512.Idx) :
    shapeCast S1x256x512 V shapeCasts_S256x512_S1x256x512 (Shape.reshapeEquiv nC j) = V j := by
  show V (Shape.reshapeEquiv _ (Shape.reshapeEquiv nC j)) = V j
  rw [Shape.reshapeEquiv_reshapeEquiv, Shape.reshapeEquiv_self]

/-- From the words of the product on. -/
def finish (s : EReal) (M : IVec S256x512 32) : FVec Ideal S256x512 .bf16 :=
  truncf .bf16 (mulf (mulf (sitofp .f32 M) (broadcast S256x512 s)) (logistic (mulf (sitofp .f32 M) (broadcast S256x512 s)))) bitsLt_bf16_f32

theorem finish_apply (s : EReal) (M : IVec S256x512 32) (j : S256x512.Idx) : finish s M j = swish ((((M j).toInt : ℝ) : EReal) * s) :=
  mul_logistic _

theorem pay_finish (s : EReal) (X : Vec Ideal S256x4096 .i8) (W : Vec Ideal S1x4096x512 .i8) :
    pay (F := Ideal) s X W = shapeCast S1x256x512 (finish s (matmulI8 IntMxuNumerics.v7x dot_S256x4096_S4096x512_S256x512_1_0_0_1_n_n
      (shapeCast S256x4096 X shapeCasts_S256x4096_S256x4096) (shapeCast S4096x512 W shapeCasts_S1x4096x512_S4096x512) (constantI S256x512 32 0#32)))
      shapeCasts_S256x512_S1x256x512 := rfl

theorem pay_apply (s : EReal) (X : Vec Ideal S256x4096 .i8) (Y : Vec Ideal S4096x512 .i8) (j : S256x512.Idx)
    (h : rowAbs (fun k => X (ix2 (j 0) k)) (fun k => Y (ix2 k (j 1))) < 2 ^ 24) :
    pay (F := Ideal) s X (slotted (F := Ideal) Y) (Shape.reshapeEquiv nC j)
      = swish (scaledBy (fun k => X (ix2 (j 0) k)) (fun k => Y (ix2 k (j 1))) s) := by
  have h' : absDotI8 dot_S256x4096_S4096x512_S256x512_1_0_0_1_n_n X Y j ≤ IntMxuNumerics.v7x.exactUpTo := by
    rw [absDotI8_row]
    exact Nat.le_of_lt_succ h
  rw [pay_finish, cast_slot, slotted_cast, cast_self, finish_apply, matmulI8_toInt _ _ X Y _ j rfl h' (by decide), dotI8_row]
  rfl

end Kernel

/-! ## Sums over the reals -/

theorem coe_sum {n : ℕ} (f : Fin n → ℝ) : ∑ k, ((f k : ℝ) : EReal) = ((∑ k, f k : ℝ) : EReal) := by
  refine Finset.induction_on (Finset.univ : Finset (Fin n)) (by simp) fun a s ha ih => ?_
  rw [Finset.sum_insert ha, Finset.sum_insert ha, ih, EReal.coe_add]

/-- A word of eight bits, as the programs over the reals read it. -/
def toReal (b : BitVec 8) : EReal := (((b.signExtend 32).toInt : ℝ) : EReal)
theorem toReal_eq (b : BitVec 8) : toReal b = ((b.toInt : ℝ) : EReal) := by
  unfold toReal
  rw [BitVec.toInt_signExtend_of_le (by decide)]
theorem max_neg_coe (r : ℝ) : max ((r : ℝ) : EReal) (-(r : EReal)) = ((|r| : ℝ) : EReal) := by
  rw [← EReal.coe_neg, abs_eq_max_neg]
  exact (EReal.coe_strictMono.monotone.map_max (a := r) (b := -r)).symm

theorem sum_toReal (x w : Fin 4096 → BitVec 8) : ∑ k, toReal (x k) * toReal (w k) = ((rowDot x w : ℝ) : EReal) := by
  simp only [toReal_eq, ← EReal.coe_mul]
  rw [coe_sum]
  congr 1
  unfold rowDot
  push_cast
  rfl

theorem sum_abs (x w : Fin 4096 → BitVec 8) :
    ∑ k, max (toReal (x k)) (-toReal (x k)) * max (toReal (w k)) (-toReal (w k)) = ((rowAbs x w : ℝ) : EReal) := by
  simp only [toReal_eq, max_neg_coe, ← EReal.coe_mul]
  rw [coe_sum]
  congr 1
  unfold rowAbs
  push_cast
  refine Finset.sum_congr rfl fun k _ => ?_
  rw [Int.natAbs_mul, Nat.cast_mul, Nat.cast_natAbs, Nat.cast_natAbs]
  push_cast
  rfl

theorem two_pow_24 : Ideal.ofBits .f32 0x4B800000#32 = ((16777216 : ℝ) : EReal) := by
  simp [Ideal.ofBits, Ideal.ieee, -EReal.coe_mul]; norm_num
theorem sixty : Ideal.ofBits .f32 0x42700000#32 = ((60 : ℝ) : EReal) := by
  simp [Ideal.ofBits, Ideal.ieee, -EReal.coe_mul]; norm_num
theorem minus_sixty : Ideal.ofBits .f32 0xC2700000#32 = ((-60 : ℝ) : EReal) := by
  simp [Ideal.ofBits, Ideal.ieee, -EReal.coe_mul, -EReal.coe_neg]; norm_num

/-! ## The preconditions -/

instance fitFacts : Cert.Pre_sums_fit_KernelIdeal.Facts where
  natLt_8_32 := by decide
  bcast_S_S256x8192 := by decide
  dot_S256x4096_S4096x8192_S256x8192_1_0_0_1_n_n_wf := by decide
instance fitClipFacts : Cert.Pre_sums_fit_within_clip_KernelIdeal.Facts where
  natLt_8_32 := by decide
  bcast_S_S256x8192 := by decide
  bcast_S1_S1x1_1 := by decide
  bcast_S1x1_S256x8192_0_1 := by decide
  dot_S256x4096_S4096x8192_S256x8192_1_0_0_1_n_n_wf := by decide
instance fitClipRefFacts : Cert.Pre_sums_fit_within_clip_ReferenceIdeal.Facts where
  natLt_8_32 := by decide
  bcast_S_S4096x8192 := by decide
  bcast_S1_S1x1_1 := by decide
  bcast_S1x1_S4096x8192_0_1 := by decide
  dot_S4096x4096_S4096x8192_S4096x8192_1_0_0_1_n_n_wf := by decide
instance fitRefFacts : Cert.Pre_sums_fit_UnclippedIdeal.Facts where
  natLt_8_32 := by decide
  bcast_S_S4096x8192 := by decide
  dot_S4096x4096_S4096x8192_S4096x8192_1_0_0_1_n_n_wf := by decide

theorem of_olt {x y : EReal} (h : Ideal.cmp .olt x y = 1#1) : x < y := by
  unfold Ideal.cmp at h
  by_contra hn
  simp [hn] at h
theorem of_ole {x y : EReal} (h : Ideal.cmp .ole x y = 1#1) : x ≤ y := by
  unfold Ideal.cmp at h
  by_contra hn
  simp [hn] at h
theorem of_and {a b : BitVec 1} (h : a &&& b = 1#1) : a = 1#1 ∧ b = 1#1 := by
  revert a b
  decide

section Pre
open Cert.Pre_sums_fit_KernelIdeal

theorem fit_apply (X : IVec S256x4096 8) (W : IVec S4096x8192 8) (s1 s2 : FVec Ideal S1 .f32) (j : S256x8192.Idx) :
    fn (F := Ideal) X W s1 s2 j
      = Ideal.cmp .olt (∑ k : Fin 4096, max (toReal (X (ix2 (j 0) k))) (-toReal (X (ix2 (j 0) k)))
          * max (toReal (W (ix2 k (j 1)))) (-toReal (W (ix2 k (j 1))))) (Ideal.ofBits .f32 0x4B800000#32) := by
  pointwise [fn]
  rfl

/-- Where the first precondition holds, the magnitudes total less than 2^24. -/
theorem fits (X : IVec S256x4096 8) (W : IVec S4096x8192 8) (s1 s2 : FVec Ideal S1 .f32) (j : S256x8192.Idx)
    (h : fn (F := Ideal) X W s1 s2 j = 1#1) : rowAbs (fun k => X (ix2 (j 0) k)) (fun k => W (ix2 k (j 1))) < 2 ^ 24 := by
  rw [fit_apply, sum_abs (fun k => X (ix2 (j 0) k)) (fun k => W (ix2 k (j 1))), two_pow_24] at h
  have h' := of_olt h
  rw [EReal.coe_lt_coe_iff] at h'
  exact_mod_cast h'

end Pre

section PreClip
open Cert.Pre_sums_fit_within_clip_KernelIdeal

theorem fitClip_apply (X : IVec S256x4096 8) (W : IVec S4096x8192 8) (s1 s2 : FVec Ideal S1 .f32) (j : S256x8192.Idx) :
    fn (F := Ideal) X W s1 s2 j
      = Ideal.cmp .olt (∑ k : Fin 4096, max (toReal (X (ix2 (j 0) k))) (-toReal (X (ix2 (j 0) k)))
          * max (toReal (W (ix2 k (j 1)))) (-toReal (W (ix2 k (j 1))))) (Ideal.ofBits .f32 0x4B800000#32)
        &&& Ideal.cmp .ole (max ((∑ k : Fin 4096, toReal (X (ix2 (j 0) k)) * toReal (W (ix2 k (j 1)))) * (s1 (ix1 0) * s2 (ix1 0)))
            (-((∑ k : Fin 4096, toReal (X (ix2 (j 0) k)) * toReal (W (ix2 k (j 1)))) * (s1 (ix1 0) * s2 (ix1 0)))))
          (Ideal.ofBits .f32 0x42700000#32) := by
  pointwise [fn]
  rfl

theorem fits_clip (X : IVec S256x4096 8) (W : IVec S4096x8192 8) (s1 s2 : FVec Ideal S1 .f32) (j : S256x8192.Idx)
    (h : fn (F := Ideal) X W s1 s2 j = 1#1) :
    rowAbs (fun k => X (ix2 (j 0) k)) (fun k => W (ix2 k (j 1))) < 2 ^ 24
      ∧ -60 ≤ scaledBy (fun k => X (ix2 (j 0) k)) (fun k => W (ix2 k (j 1))) (s1 (ix1 0) * s2 (ix1 0))
      ∧ scaledBy (fun k => X (ix2 (j 0) k)) (fun k => W (ix2 k (j 1))) (s1 (ix1 0) * s2 (ix1 0)) ≤ 60 := by
  rw [fitClip_apply, sum_abs (fun k => X (ix2 (j 0) k)) (fun k => W (ix2 k (j 1))),
    sum_toReal (fun k => X (ix2 (j 0) k)) (fun k => W (ix2 k (j 1))), two_pow_24, sixty] at h
  obtain ⟨h1, h2⟩ := of_and h
  have h1' := of_olt h1
  have h2' := of_ole h2
  rw [EReal.coe_lt_coe_iff] at h1'
  refine ⟨by exact_mod_cast h1', ?_, ?_⟩
  · have := (le_max_right _ _).trans h2'
    exact EReal.neg_le.mp this
  · exact (le_max_left _ _).trans h2'

end PreClip

/-! ## The references -/

section Ref
open Cert.UnclippedIdeal Cert.UnclippedIdeal.Gen

/-- The reference's sum of products, scaled; -/
def refScaled (A : IVec S4096x4096 8) (W : IVec S4096x8192 8) (s1 s2 : FVec Ideal S1 .f32) : FVec Ideal S4096x8192 .f32 :=
  mulf (Host.dotGeneral dot_S4096x4096_S4096x8192_S4096x8192_1_0_0_1_n_n none (sitofp .f32 (extsi 32 A Facts₀.natLt_8_32)) (sitofp .f32 (extsi 32 W Facts₀.natLt_8_32)))
    (broadcastInDim S4096x8192 ![0, 1] Facts₀.bcast_S1x1_S4096x8192_0_1 (broadcastInDim S1x1 ![1] Facts₀.bcast_S1_S1x1_1 (mulf s1 s2)))

theorem refScaled_apply (A : IVec S4096x4096 8) (W : IVec S4096x8192 8) (s1 s2 : FVec Ideal S1 .f32) (j : S4096x8192.Idx) :
    refScaled A W s1 s2 j = scaledBy (fun k => A (ix2 (j 0) k)) (fun k => W (ix2 k (j 1))) (s1 (ix1 0) * s2 (ix1 0)) := by
  unfold scaledBy
  rw [← sum_toReal]
  pointwise [refScaled]
  rfl

/-- a sum over one plus the exponential of minus another; -/
def quot (R Q : FVec Ideal S4096x8192 .f32) : FVec Ideal S4096x8192 .f32 :=
  Host.divf R (addf (broadcastInDim S4096x8192 ![] Facts₀.bcast_S_S4096x8192 (constant S_ .f32 0x3F800000#32)) (Host.exp (Host.negf Q)))
theorem quot_apply (R Q : FVec Ideal S4096x8192 .f32) (j : S4096x8192.Idx) : quot R Q j = Ideal.div (R j) (1 + Ideal.exp (-(Q j))) := by
  rw [← Ideal.ofBits_one_f32]
  rfl
/-- the clip; -/
def clipped (R : FVec Ideal S4096x8192 .f32) : FVec Ideal S4096x8192 .f32 :=
  minimumf (broadcastInDim S4096x8192 ![] Facts₀.bcast_S_S4096x8192 (id (constant S_ .f32 0x42700000#32)))
    (maximumf (broadcastInDim S4096x8192 ![] Facts₀.bcast_S_S4096x8192 (id (constant S_ .f32 0xC2700000#32))) R)
theorem clipped_apply (R : FVec Ideal S4096x8192 .f32) (j : S4096x8192.Idx) (h1 : -60 ≤ R j) (h2 : R j ≤ 60) : clipped R j = R j := by
  show min (Ideal.ofBits .f32 0x42700000#32) (max (Ideal.ofBits .f32 0xC2700000#32) (R j)) = R j
  rw [sixty, minus_sixty]
  have h1' : ((-60 : ℝ) : EReal) ≤ R j := h1
  have h2' : R j ≤ ((60 : ℝ) : EReal) := h2
  rw [max_eq_right h1', min_eq_right h2']

/-- the reference without the clip, and with it. -/
def refOut (A : IVec S4096x4096 8) (W : IVec S4096x8192 8) (s1 s2 : FVec Ideal S1 .f32) : FVec Ideal S4096x8192 .f32 :=
  quot (refScaled A W s1 s2) (refScaled A W s1 s2)
def refClip (A : IVec S4096x4096 8) (W : IVec S4096x8192 8) (s1 s2 : FVec Ideal S1 .f32) : FVec Ideal S4096x8192 .f32 :=
  quot (refScaled A W s1 s2) (clipped (refScaled A W s1 s2))

theorem refOut_apply (A : IVec S4096x4096 8) (W : IVec S4096x8192 8) (s1 s2 : FVec Ideal S1 .f32) (j : S4096x8192.Idx) :
    refOut A W s1 s2 j = swish (scaledBy (fun k => A (ix2 (j 0) k)) (fun k => W (ix2 k (j 1))) (s1 (ix1 0) * s2 (ix1 0))) := by
  unfold refOut swish
  rw [quot_apply, refScaled_apply]
theorem refClip_apply (A : IVec S4096x4096 8) (W : IVec S4096x8192 8) (s1 s2 : FVec Ideal S1 .f32) (j : S4096x8192.Idx)
    (h1 : -60 ≤ scaledBy (fun k => A (ix2 (j 0) k)) (fun k => W (ix2 k (j 1))) (s1 (ix1 0) * s2 (ix1 0)))
    (h2 : scaledBy (fun k => A (ix2 (j 0) k)) (fun k => W (ix2 k (j 1))) (s1 (ix1 0) * s2 (ix1 0)) ≤ 60) :
    refClip A W s1 s2 j = swish (scaledBy (fun k => A (ix2 (j 0) k)) (fun k => W (ix2 k (j 1))) (s1 (ix1 0) * s2 (ix1 0))) := by
  rw [← refScaled_apply] at h1 h2
  unfold refClip swish
  rw [quot_apply, clipped_apply _ _ h1 h2, refScaled_apply]

end Ref

end Cert.ScatterProof

end
-- ==== Proof.Value.lean ====
/- The values: each device ends with its columns of the reference, where the preconditions hold. -/
module

public import proofs.«01_k».proof.Defs
public import proofs.«01_k».proof.Proof.Read
public import proofs.«01_k».proof.Proof.Frames
public import Idealize.ShloMosaic.Lib.Pipeline.Value
public import Idealize.ShloMosaic.Lib.Affine

@[expose] public section

set_option maxRecDepth 16384

noncomputable section

namespace Cert.ScatterProof

open Cert.KernelIdeal Cert.KernelIdeal.Gen
open Idealize.ShloMosaic Idealize.ShloMosaic.TcCoe
open Idealize.SL Idealize.SL.Sem
open Idealize.ShloMosaic.Pipeline (Dat Cfg Window)

/-! ## What the run leaves, from the arguments -/

section Final

variable {F : FTy → Type} [FloatOps F]
variable (m : (ℓ : Loc nD τ sig) → Buf (Elt F) ℓ) (ρ : Dev nD → PrngReg)

/-- The one grid point. -/
def pt : Fin cfg0.N := ⟨0, by decide⟩

theorem written (c : Dev nD) :
    ((cfg0.win (3 : Fin 4)).blk pt).view.read (Elt F) (finalA m ρ c (3 : Fin 4)) = (dats m ρ 0 c).flushed (3 : Fin 4) pt := by
  unfold finalA
  rw [show cfg0.N = (pt : Fin cfg0.N).val + 1 from rfl, (dats m ρ 0 c).arrAt_succ (3 : Fin 4) pt]
  rw [show (cfg0.win (3 : Fin 4)).flush pt = true from by decide, if_pos rfl]
  exact View.read_write_univ _ _

theorem final_out (c : Dev nD) : finalA m ρ c (3 : Fin 4) = outAt m ρ c := by
  have ho := written m ρ c
  have hz : (fun a => (win0_3.index pt) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem s1stg_eq (c : Dev nD) : s1stg m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _
theorem s2stg_eq (c : Dev nD) : s2stg m ρ c = m ((c : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

end Final

variable (m : (ℓ : Loc nD τ sig) → Buf (Elt Ideal) ℓ) (ρ : Dev nD → PrngReg)

/-- The arguments of device `c`, at their shapes. -/
def argX (c : Dev nD) : IVec S256x4096 8 := m ((c : Thread nD τ).loc main_arg0)
def argW (c : Dev nD) : IVec S4096x8192 8 := m ((c : Thread nD τ).loc main_arg1)
def argS (c : Dev nD) : FVec Ideal S1 .f32 := m ((c : Thread nD τ).loc main_arg2)
def argT (c : Dev nD) : FVec Ideal S1 .f32 := m ((c : Thread nD τ).loc main_arg3)

theorem one_idx (i j : S1.Idx) : i = j := by
  funext a
  apply Fin.ext
  have hi : (i a).val < 1 := by have := (i a).isLt; fin_cases a; exact this
  have hj : (j a).val < 1 := by have := (j a).isLt; fin_cases a; exact this
  omega

theorem scale_eq (c : Dev nD) : scale m ρ c = argS m c (ix1 0) * argT m c (ix1 0) := by
  unfold scale
  rw [s1stg_eq, s2stg_eq]
  show argS m c _ * argT m c _ = _
  congr 2 <;> exact one_idx _ _

/-- A column of block `p`, in the weights. -/
def colOf (p : Dev nD) (l : Fin 512) : Fin 8192 := ⟨512 * p.val + l.val, by have : p.val < 16 := p.isLt; have := l.isLt; omega⟩

theorem wcols_apply (c p : Dev nD) (k : Fin 4096) (l : Fin 512) : wcols m c p (ix2 k l) = argW m c (ix2 k (colOf p l)) := by
  show argW m c ((gRect p).emb (ix2 k l)) = _
  congr 1
  funext a
  apply Fin.ext
  fin_cases a
  · show 0 + 1 * k.val = k.val
    omega
  · show 512 * p.val + 1 * l.val = 512 * p.val + l.val
    omega

/-- An element of what device `c` ends with, where the magnitudes fit. -/
theorem outAt_apply (c : Dev nD) (i : S4096x512.Idx)
    (h : rowAbs (fun k => argX m (rowBlk i) (ix2 (rowIn i 0) k)) (fun k => argW m (rowBlk i) (ix2 k (colOf c (i 1)))) < 2 ^ 24) :
    outAt m ρ c i = swish (scaledBy (fun k => argX m (rowBlk i) (ix2 (rowIn i 0) k)) (fun k => argW m (rowBlk i) (ix2 k (colOf c (i 1))))
      (argS m (rowBlk i) (ix1 0) * argT m (rowBlk i) (ix1 0))) := by
  show pay (F := Ideal) (scale m ρ (rowBlk i)) (xstg m ρ (rowBlk i)) (slotted (F := Ideal) (wcols m (rowBlk i) c)) (Shape.reshapeEquiv nC (rowIn i)) = _
  have hc : (fun k : Fin 4096 => wcols m (rowBlk i) c (ix2 k (rowIn i 1))) = fun k => argW m (rowBlk i) (ix2 k (colOf c (i 1))) :=
    funext fun k => wcols_apply m (rowBlk i) c k (i 1)
  rw [xstg_eq, scale_eq]
  have h' := pay_apply (argS m (rowBlk i) (ix1 0) * argT m (rowBlk i) (ix1 0)) (argX m (rowBlk i)) (wcols m (rowBlk i) c) (rowIn i)
    (by rw [hc]; exact h)
  rw [hc] at h'
  exact h'

/-! ## Against the whole arrays -/

section Whole

variable (A : IVec (⟨2, ![4096, 4096]⟩ : Shape) 8) (W : IVec S4096x8192 8) (s1 s2 : FVec Ideal S1 .f32)

/-- The arguments of every device are its parts of the whole arrays. -/
def PartsOf : Prop := ∀ c : Dev nD, argX m c = Layout.block ⟨2, ![256, 4096]⟩ ⟨2, ![4096, 4096]⟩ 0 16 c A
  ∧ argW m c = W ∧ argS m c = s1 ∧ argT m c = s2

/-- Where an element of device `c`'s result is in the whole result. -/
def at' (c : Dev nD) (i : S4096x512.Idx) : (⟨2, ![4096, 8192]⟩ : Shape).Idx := ix2 ⟨(i 0).val, (i 0).isLt⟩ (colOf c (i 1))

theorem idx_at (c : Dev nD) (i : S4096x512.Idx) (h : Layout.Tiles ⟨2, ![4096, 512]⟩ ⟨2, ![4096, 8192]⟩ 1 16) : h.idx c i = at' c i := by
  funext a
  apply Fin.ext
  fin_cases a
  · rfl
  · show c.val * 512 + (i 1).val = 512 * c.val + (i 1).val
    omega

variable {m A W s1 s2}

theorem row_of (hp : PartsOf m A W s1 s2) (i : S4096x512.Idx) :
    (fun k : Fin 4096 => argX m (rowBlk i) (ix2 (rowIn i 0) k)) = fun k => A (ix2 ⟨(i 0).val, (i 0).isLt⟩ k) := by
  funext k
  rw [(hp (rowBlk i)).1]
  show A _ = A _
  congr 1
  funext a
  apply Fin.ext
  fin_cases a
  · show (i 0).val / 256 * 256 + (i 0).val % 256 = (i 0).val
    omega
  · rfl

/-- The place of an element in the results of the preconditions' programs on the device that computed it. -/
def preAt (c : Dev nD) (i : S4096x512.Idx) : (⟨2, ![256, 8192]⟩ : Shape).Idx := ix2 (rowIn i 0) (colOf c (i 1))

theorem outAt_whole (hp : PartsOf m A W s1 s2) (c : Dev nD) (i : S4096x512.Idx)
    (h : rowAbs (fun k => A (ix2 ⟨(i 0).val, (i 0).isLt⟩ k)) (fun k => W (ix2 k (colOf c (i 1)))) < 2 ^ 24) :
    outAt m ρ c i = swish (scaledBy (fun k => A (ix2 ⟨(i 0).val, (i 0).isLt⟩ k)) (fun k => W (ix2 k (colOf c (i 1)))) (s1 (ix1 0) * s2 (ix1 0))) := by
  obtain ⟨_, hw, ht1, ht2⟩ := hp (rowBlk i)
  have hr := row_of hp i
  have h' := outAt_apply m ρ c i (by rw [hr, hw]; exact h)
  rw [hr, hw, ht1, ht2] at h'
  exact h'

theorem out_unclipped (hp : PartsOf m A W s1 s2) (hpre : Cert.Pre_KernelIdeal_sums_fit_KernelIdeal m) (c : Dev nD) :
    outAt m ρ c = Layout.block ⟨2, ![4096, 512]⟩ ⟨2, ![4096, 8192]⟩ 1 16 c (refOut A W s1 s2) := by
  funext i
  have hf := fits (argX m (rowBlk i)) (argW m (rowBlk i)) (argS m (rowBlk i)) (argT m (rowBlk i)) (preAt c i) (congrFun (hpre (rowBlk i)) (preAt c i))
  obtain ⟨_, hw, ht1, ht2⟩ := hp (rowBlk i)
  have hr := row_of hp i
  rw [hw] at hf
  rw [outAt_whole ρ hp c i (by rw [← hr]; exact hf), Layout.block_apply, idx_at, refOut_apply]
  rfl

theorem out_clipped (hp : PartsOf m A W s1 s2) (hpre : Cert.Pre_KernelIdeal_sums_fit_within_clip_KernelIdeal m) (c : Dev nD) :
    outAt m ρ c = Layout.block ⟨2, ![4096, 512]⟩ ⟨2, ![4096, 8192]⟩ 1 16 c (refClip A W s1 s2) := by
  funext i
  obtain ⟨hf, h1, h2⟩ := fits_clip (argX m (rowBlk i)) (argW m (rowBlk i)) (argS m (rowBlk i)) (argT m (rowBlk i)) (preAt c i)
    (congrFun (hpre (rowBlk i)) (preAt c i))
  obtain ⟨_, hw, ht1, ht2⟩ := hp (rowBlk i)
  have hr := row_of hp i
  rw [hw] at hf
  rw [hw, ht1, ht2] at h1 h2
  have hr' : (fun k : Fin 4096 => argX m (rowBlk i) (ix2 (preAt c i 0) k)) = fun k => A (ix2 ⟨(i 0).val, (i 0).isLt⟩ k) := hr
  rw [hr'] at h1 h2 hf
  rw [outAt_whole ρ hp c i hf, Layout.block_apply, idx_at, refClip_apply A W s1 s2 (at' c i) h1 h2]
  rfl

end Whole

theorem against_unclipped : Cert.algebraic_KernelIdeal_UnclippedIdeal_pre_sums_fit_KernelIdeal := by
  intro m g m' g' hpre hargs
  refine ⟨refOut (m' (((0 : Dev Cert.UnclippedIdeal.nD).tc : Thread Cert.UnclippedIdeal.nD Cert.UnclippedIdeal.τ).loc Cert.UnclippedIdeal.main_arg0))
    (m' (((0 : Dev Cert.UnclippedIdeal.nD).tc : Thread Cert.UnclippedIdeal.nD Cert.UnclippedIdeal.τ).loc Cert.UnclippedIdeal.main_arg1))
    (m' (((0 : Dev Cert.UnclippedIdeal.nD).tc : Thread Cert.UnclippedIdeal.nD Cert.UnclippedIdeal.τ).loc Cert.UnclippedIdeal.main_arg2))
    (m' (((0 : Dev Cert.UnclippedIdeal.nD).tc : Thread Cert.UnclippedIdeal.nD Cert.UnclippedIdeal.τ).loc Cert.UnclippedIdeal.main_arg3)), ?_, ?_⟩
  · have h := run_kernel (F := Ideal) m g
    refine (θ_run (Cert.KernelIdeal.defs (F := Ideal)) _ _).mono ?_ h
    rintro r ⟨h1, _⟩ c
    exact ⟨((h1 c).1.trans (final_out m g c)).trans (out_unclipped g hargs hpre c), (h1 c).2⟩
  · have h := Cert.UnclippedIdeal.Value.run (F := Ideal) m' g'
    refine (θ_run (Cert.UnclippedIdeal.defs (F := Ideal)) _ _).mono ?_ h
    intro r h1
    exact h1 0

theorem against_reference : Cert.algebraic_KernelIdeal_ReferenceIdeal_pre_sums_fit_within_clip_KernelIdeal := by
  intro m g m' g' hpre hargs
  refine ⟨refClip (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · have h := run_kernel (F := Ideal) m g
    refine (θ_run (Cert.KernelIdeal.defs (F := Ideal)) _ _).mono ?_ h
    rintro r ⟨h1, _⟩ c
    exact ⟨((h1 c).1.trans (final_out m g c)).trans (out_clipped g hargs hpre c), (h1 c).2⟩
  · have h := Cert.ReferenceIdeal.Value.run (F := Ideal) m' g'
    refine (θ_run (Cert.ReferenceIdeal.defs (F := Ideal)) _ _).mono ?_ h
    intro r h1
    exact h1 0

/-! ## The frames under the preconditions -/

theorem frame_fit : Cert.quiescent_KernelIdeal_pre_sums_fit_KernelIdeal := fun m ρ _ => frame_kernel_ideal m ρ trivial
theorem frame_fit_clip : Cert.quiescent_KernelIdeal_pre_sums_fit_within_clip_KernelIdeal := fun m ρ _ => frame_kernel_ideal m ρ trivial
theorem frame_fit_clip_reference : Cert.quiescent_ReferenceIdeal_pre_sums_fit_within_clip_ReferenceIdeal := fun m ρ _ => frame_reference m ρ trivial
theorem frame_fit_unclipped : Cert.quiescent_UnclippedIdeal_pre_sums_fit_UnclippedIdeal := fun m ρ _ => frame_unclipped m ρ trivial

end Cert.ScatterProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UnclippedIdeal
public import proofs.«01_k».proof.Proof.Gen.ReferenceIdeal.Run
public import proofs.«01_k».proof.Proof.Gen.UnclippedIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the statement, in the order in which `Cert.Claim` lists them. -/
theorem claim : Cert.Claim := ⟨Cert.Kernel.Gen.facts, Cert.KernelIdeal.Gen.facts, Cert.ReferenceIdeal.Gen.facts, Cert.UnclippedIdeal.Gen.facts,
  Cert.ScatterProof.fitFacts, Cert.ScatterProof.fitClipFacts, Cert.ScatterProof.fitClipRefFacts, Cert.ScatterProof.fitRefFacts,
  Cert.ScatterProof.frame_kernel, Cert.ScatterProof.frame_kernel_ideal, Cert.ScatterProof.frame_fit, Cert.ScatterProof.frame_fit_clip,
  Cert.ScatterProof.frame_reference, Cert.ScatterProof.frame_fit_clip_reference, Cert.ScatterProof.frame_unclipped,
  Cert.ScatterProof.frame_fit_unclipped, trivial, Cert.ScatterProof.against_unclipped, Cert.ScatterProof.against_reference⟩

end Cert.Proof

end
